-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v139_0)) (v1 : (c : Dev Cert.KernelIdeal.nD) → Buf (Elt Ideal) ((c.tc : Thread Cert.KernelIdeal.nD Cert.KernelIdeal.τ).loc Cert.KernelIdeal.main_v139_1)) (v2 : (c : Dev Cert.KernelIdeal.nD) → Buf (Elt Ideal) ((c.tc : Thread Cert.KernelIdeal.nD Cert.KernelIdeal.τ).loc Cert.KernelIdeal.main_v139_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139_0) = v0 c
          ∧ r.2.mem ((c.tc : Thread Cert.KernelIdeal.nD Cert.KernelIdeal.τ).loc Cert.KernelIdeal.main_v139_1) = v1 c
          ∧ r.2.mem ((c.tc : Thread Cert.KernelIdeal.nD Cert.KernelIdeal.τ).loc Cert.KernelIdeal.main_v139_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_v145_8) = v1 c
          ∧ r.2.mem ((c.tc : Thread Cert.ReferenceIdeal.nD Cert.ReferenceIdeal.τ).loc Cert.ReferenceIdeal.main_v145_9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S8192x4160 : Shape := ⟨2, ![8192, 4160]⟩
abbrev S8192x128 : Shape := ⟨2, ![8192, 128]⟩
abbrev S258x1x256 : Shape := ⟨3, ![258, 1, 256]⟩
abbrev S128x129x3 : Shape := ⟨3, ![128, 129, 3]⟩
abbrev S128 : Shape := ⟨1, ![128]⟩
abbrev S64x128x3 : Shape := ⟨3, ![64, 128, 3]⟩
abbrev S64 : Shape := ⟨1, ![64]⟩
abbrev S64x64x3 : Shape := ⟨3, ![64, 64, 3]⟩
abbrev S128x64x3 : Shape := ⟨3, ![128, 64, 3]⟩
abbrev S512x128 : Shape := ⟨2, ![512, 128]⟩
abbrev S512 : Shape := ⟨1, ![512]⟩
abbrev S1x128 : Shape := ⟨2, ![1, 128]⟩
abbrev S1 : Shape := ⟨1, ![1]⟩
abbrev S8192x576 : Shape := ⟨2, ![8192, 576]⟩
abbrev S1x8192x576 : Shape := ⟨3, ![1, 8192, 576]⟩
abbrev S8x8192x576 : Shape := ⟨3, ![8, 8192, 576]⟩
abbrev S65536x576 : Shape := ⟨2, ![65536, 576]⟩
abbrev S_ : Shape := ⟨0, ![]⟩
abbrev S65536x1 : Shape := ⟨2, ![65536, 1]⟩
abbrev S65536x64 : Shape := ⟨2, ![65536, 64]⟩
abbrev S65536x640 : Shape := ⟨2, ![65536, 640]⟩
abbrev S65536x704 : Shape := ⟨2, ![65536, 704]⟩
abbrev S65536x256 : Shape := ⟨2, ![65536, 256]⟩
abbrev S258x256 : Shape := ⟨2, ![258, 256]⟩
abbrev S256x258 : Shape := ⟨2, ![256, 258]⟩
abbrev S65536x258 : Shape := ⟨2, ![65536, 258]⟩
abbrev S65536x258x1 : Shape := ⟨3, ![65536, 258, 1]⟩
abbrev S65536x258x4 : Shape := ⟨3, ![65536, 258, 4]⟩
abbrev S65536x129x4 : Shape := ⟨3, ![65536, 129, 4]⟩

class Facts : Prop where
  slices_S8192x4160_S8192x576_0_0 : S8192x4160.Slices ![0, 0] S8192x576
  slices_S8192x4160_S8192x576_0_512 : S8192x4160.Slices ![0, 512] S8192x576
  slices_S8192x4160_S8192x576_0_1024 : S8192x4160.Slices ![0, 1024] S8192x576
  slices_S8192x4160_S8192x576_0_1536 : S8192x4160.Slices ![0, 1536] S8192x576
  slices_S8192x4160_S8192x576_0_2048 : S8192x4160.Slices ![0, 2048] S8192x576
  slices_S8192x4160_S8192x576_0_2560 : S8192x4160.Slices ![0, 2560] S8192x576
  slices_S8192x4160_S8192x576_0_3072 : S8192x4160.Slices ![0, 3072] S8192x576
  slices_S8192x4160_S8192x576_0_3584 : S8192x4160.Slices ![0, 3584] S8192x576
  bcast_S8192x576_S1x8192x576_1_2 : S8192x576.BroadcastsInDim S1x8192x576 (![1, 2] : Fin 2 → Fin S1x8192x576.rank)
  concatenates_S1x8192x576_S1x8192x576_S1x8192x576_S1x8192x576_S1x8192x576_S1x8192x576_S1x8192x576_S1x8192x576_S8x8192x576_d0 : Shape.Concatenates [S1x8192x576, S1x8192x576, S1x8192x576, S1x8192x576, S1x8192x576, S1x8192x576, S1x8192x576, S1x8192x576] S8x8192x576 0
  shapeCasts_S8x8192x576_S65536x576 : S8x8192x576.ShapeCasts S65536x576
  slices_S65536x576_S65536x1_0_0 : S65536x576.Slices ![0, 0] S65536x1
  slices_S65536x576_S65536x64_0_1 : S65536x576.Slices ![0, 1] S65536x64
  concatenates_S65536x64_S65536x576_S65536x640_d1 : Shape.Concatenates [S65536x64, S65536x576] S65536x640 1
  slices_S65536x640_S65536x1_0_639 : S65536x640.Slices ![0, 639] S65536x1
  slices_S65536x640_S65536x64_0_575 : S65536x640.Slices ![0, 575] S65536x64
  concatenates_S65536x640_S65536x64_S65536x704_d1 : Shape.Concatenates [S65536x640, S65536x64] S65536x704 1
  slices_S65536x704_S65536x256_0_0 : S65536x704.Slices ![0, 0] S65536x256
  shapeCasts_S258x1x256_S258x256 : S258x1x256.ShapeCasts S258x256
  transposes_S258x256_S256x258_1_0 : S258x256.Transposes [1, 0] S256x258
  slices_S65536x704_S65536x256_0_128 : S65536x704.Slices ![0, 128] S65536x256
  slices_S65536x704_S65536x256_0_256 : S65536x704.Slices ![0, 256] S65536x256
  slices_S65536x704_S65536x256_0_384 : S65536x704.Slices ![0, 384] S65536x256
  bcast_S65536x258_S65536x258x1_0_1 : S65536x258.BroadcastsInDim S65536x258x1 (![0, 1] : Fin 2 → Fin S65536x258x1.rank)
  concatenates_S65536x258x1_S65536x258x1_S65536x258x1_S65536x258x1_S65536x258x4_d2 : Shape.Concatenates [S65536x258x1, S65536x258x1, S65536x258x1, S65536x258x1] S65536x258x4 2
  slices_S65536x258x4_S65536x129x4_0_0_0 : S65536x258x4.Slices ![0, 0, 0] S65536x129x4
  slices_S65536x258x4_S65536x129x4_0_129_0 : S65536x258x4.Slices ![0, 129, 0] S65536x129x4
  bcast_S_S8192x4160 : S_.BroadcastsInDim S8192x4160 (![] : Fin 0 → Fin S8192x4160.rank)
  reducesTo_S8192x4160_S_d0_1 : S8192x4160.ReducesTo [0, 1] S_
  h_S_ : 0 < S_.numel
  bcast_S_S258x1x256 : S_.BroadcastsInDim S258x1x256 (![] : Fin 0 → Fin S258x1x256.rank)
  reducesTo_S258x1x256_S_d0_1_2 : S258x1x256.ReducesTo [0, 1, 2] S_
  bcast_S_S65536x129x4 : S_.BroadcastsInDim S65536x129x4 (![] : Fin 0 → Fin S65536x129x4.rank)
  reducesTo_S65536x129x4_S_d0_1_2 : S65536x129x4.ReducesTo [0, 1, 2] S_
  dot_S65536x256_S256x258_S65536x258_1_0_0_1_n_n_wf : DotDims.WF S65536x256 S256x258 S65536x258 [1] [0] [0] [1] [] []

variable [Facts]

def dot_S65536x256_S256x258_S65536x258_1_0_0_1_n_n : DotDims S65536x256 S256x258 S65536x258 where
  lhsContracting := [1]
  rhsContracting := [0]
  lhsNonContracting := [0]
  rhsNonContracting := [1]
  lhsBatch := []
  rhsBatch := []
  wf := dot_S65536x256_S256x258_S65536x258_1_0_0_1_n_n_wf
def fn_flip {F : FTy → Type} [FloatOps F] (arg0 : FVec F S65536x64 .f32) : FVec F S65536x64 .f32 :=
  let v0 : FVec F S65536x64 .f32 := Host.reverse [1] arg0
  v0

def fn_pad {F : FTy → Type} [FloatOps F] (arg0 : FVec F S65536x576 .f32) (arg1 : IVec S_ 32) : FVec F S65536x704 .f32 :=
  let v0 : FVec F S65536x1 .f32 := (extractStridedSlice S65536x1 ![0, 0] · slices_S65536x576_S65536x1_0_0) arg0
  let v1 : FVec F S65536x64 .f32 := (extractStridedSlice S65536x64 ![0, 1] · slices_S65536x576_S65536x64_0_1) arg0
  let v2 : FVec F S65536x64 .f32 := fn_flip (F := F) v1
  let v3 : FVec F S65536x640 .f32 := (fun a b => concatenate S65536x640 1 [⟨S65536x64, a⟩, ⟨S65536x576, b⟩] concatenates_S65536x64_S65536x576_S65536x640_d1) v2 arg0
  let v4 : FVec F S65536x1 .f32 := (extractStridedSlice S65536x1 ![0, 639] · slices_S65536x640_S65536x1_0_639) v3
  let v5 : FVec F S65536x64 .f32 := (extractStridedSlice S65536x64 ![0, 575] · slices_S65536x640_S65536x64_0_575) v3
  let v6 : FVec F S65536x64 .f32 := fn_flip (F := F) v5
  let v7 : FVec F S65536x704 .f32 := (fun a b => concatenate S65536x704 1 [⟨S65536x640, a⟩, ⟨S65536x64, b⟩] concatenates_S65536x640_S65536x64_S65536x704_d1) v3 v6
  v7

def fn_part2 {F : FTy → Type} [FloatOps F] (main_arg3 : FVec F S258x1x256 .f32) (main_v44 : FVec F S65536x129x4 .f32) (main_v45 : FVec F S8192x4160 .f32) (main_cst : FVec F S_ .f32) : IVec S_ 1 :=
  let main_v46 : FVec F S8192x4160 .f32 := broadcastInDim S8192x4160 ![] bcast_S_S8192x4160 main_cst
  let main_v47 : IVec S8192x4160 1 := cmpf .olt main_v45 main_v46
  let main_c_0 : IVec S_ 1 := constantI S_ 1 1#1
  let main_v48 : IVec S_ 1 := (fun x v => Host.reduce IntOp.andi x v reducesTo_S8192x4160_S_d0_1 h_S_) main_v47 main_c_0
  let main_v49 : FVec F S258x1x256 .f32 := Host.absf main_arg3
  let main_cst_1 : FVec F S_ .f32 := constant S_ .f32 0x7F800000#32
  let main_v50 : FVec F S258x1x256 .f32 := broadcastInDim S258x1x256 ![] bcast_S_S258x1x256 main_cst_1
  let main_v51 : IVec S258x1x256 1 := cmpf .olt main_v49 main_v50
  let main_c_2 : IVec S_ 1 := constantI S_ 1 1#1
  let main_v52 : IVec S_ 1 := (fun x v => Host.reduce IntOp.andi x v reducesTo_S258x1x256_S_d0_1_2 h_S_) main_v51 main_c_2
  let main_v53 : IVec S_ 1 := andi main_v48 main_v52
  let main_cst_3 : FVec F S_ .f32 := constant S_ .f32 0x00000000#32
  let main_v54 : FVec F S65536x129x4 .f32 := broadcastInDim S65536x129x4 ![] bcast_S_S65536x129x4 main_cst_3
  let main_v55 : IVec S65536x129x4 1 := cmpf .oeq main_v44 main_v54
  let main_cst_4 : FVec F S_ .f32 := constant S_ .f32 0x02081CEA#32
  let main_v56 : FVec F S65536x129x4 .f32 := broadcastInDim S65536x129x4 ![] bcast_S_S65536x129x4 main_cst_4
  let main_v57 : IVec S65536x129x4 1 := cmpf .oge main_v44 main_v56
  let main_v58 : IVec S65536x129x4 1 := ori main_v55 main_v57
  let main_c_5 : IVec S_ 1 := constantI S_ 1 1#1
  let main_v59 : IVec S_ 1 := (fun x v => Host.reduce IntOp.andi x v reducesTo_S65536x129x4_S_d0_1_2 h_S_) main_v58 main_c_5
  let main_v60 : IVec S_ 1 := andi main_v53 main_v59
  main_v60

def fn_part1 {F : FTy → Type} [FloatOps F] (main_arg0 : FVec F S8192x4160 .f32) (main_arg3 : FVec F S258x1x256 .f32) (main_v18 : FVec F S65536x704 .f32) (main_v22 : FVec F S65536x258 .f32) : IVec S_ 1 :=
  let main_v23 : FVec F S65536x256 .f32 := (extractStridedSlice S65536x256 ![0, 128] · slices_S65536x704_S65536x256_0_128) main_v18
  let main_v24 : FVec F S258x256 .f32 := shapeCast S258x256 main_arg3 shapeCasts_S258x1x256_S258x256
  let main_v25 : FVec F S256x258 .f32 := (transpose S256x258 [1, 0] · transposes_S258x256_S256x258_1_0) main_v24
  let main_v26 : FVec F S65536x258 .f32 := (fun l r => Host.dotGeneral dot_S65536x256_S256x258_S65536x258_1_0_0_1_n_n none l r) main_v23 main_v25
  let main_v27 : FVec F S65536x256 .f32 := (extractStridedSlice S65536x256 ![0, 256] · slices_S65536x704_S65536x256_0_256) main_v18
  let main_v28 : FVec F S258x256 .f32 := shapeCast S258x256 main_arg3 shapeCasts_S258x1x256_S258x256
  let main_v29 : FVec F S256x258 .f32 := (transpose S256x258 [1, 0] · transposes_S258x256_S256x258_1_0) main_v28
  let main_v30 : FVec F S65536x258 .f32 := (fun l r => Host.dotGeneral dot_S65536x256_S256x258_S65536x258_1_0_0_1_n_n none l r) main_v27 main_v29
  let main_v31 : FVec F S65536x256 .f32 := (extractStridedSlice S65536x256 ![0, 384] · slices_S65536x704_S65536x256_0_384) main_v18
  let main_v32 : FVec F S258x256 .f32 := shapeCast S258x256 main_arg3 shapeCasts_S258x1x256_S258x256
  let main_v33 : FVec F S256x258 .f32 := (transpose S256x258 [1, 0] · transposes_S258x256_S256x258_1_0) main_v32
  let main_v34 : FVec F S65536x258 .f32 := (fun l r => Host.dotGeneral dot_S65536x256_S256x258_S65536x258_1_0_0_1_n_n none l r) main_v31 main_v33
  let main_v35 : FVec F S65536x258x1 .f32 := broadcastInDim S65536x258x1 ![0, 1] bcast_S65536x258_S65536x258x1_0_1 main_v22
  let main_v36 : FVec F S65536x258x1 .f32 := broadcastInDim S65536x258x1 ![0, 1] bcast_S65536x258_S65536x258x1_0_1 main_v26
  let main_v37 : FVec F S65536x258x1 .f32 := broadcastInDim S65536x258x1 ![0, 1] bcast_S65536x258_S65536x258x1_0_1 main_v30
  let main_v38 : FVec F S65536x258x1 .f32 := broadcastInDim S65536x258x1 ![0, 1] bcast_S65536x258_S65536x258x1_0_1 main_v34
  let main_v39 : FVec F S65536x258x4 .f32 := concatenate S65536x258x4 2 [⟨S65536x258x1, main_v35⟩, ⟨S65536x258x1, main_v36⟩, ⟨S65536x258x1, main_v37⟩, ⟨S65536x258x1, main_v38⟩] concatenates_S65536x258x1_S65536x258x1_S65536x258x1_S65536x258x1_S65536x258x4_d2
  let main_v40 : FVec F S65536x129x4 .f32 := (extractStridedSlice S65536x129x4 ![0, 0, 0] · slices_S65536x258x4_S65536x129x4_0_0_0) main_v39
  let main_v41 : FVec F S65536x129x4 .f32 := mulf main_v40 main_v40
  let main_v42 : FVec F S65536x129x4 .f32 := (extractStridedSlice S65536x129x4 ![0, 129, 0] · slices_S65536x258x4_S65536x129x4_0_129_0) main_v39
  let main_v43 : FVec F S65536x129x4 .f32 := mulf main_v42 main_v42
  let main_v44 : FVec F S65536x129x4 .f32 := addf main_v41 main_v43
  let main_v45 : FVec F S8192x4160 .f32 := Host.absf main_arg0
  let main_cst : FVec F S_ .f32 := constant S_ .f32 0x7F800000#32
  fn_part2 (F := F) main_arg3 main_v44 main_v45 main_cst

def fn {F : FTy → Type} [FloatOps F] (main_arg0 : FVec F S8192x4160 .f32) (main_arg1 : FVec F S8192x128 .f32) (main_arg2 : FVec F S8192x128 .f32) (main_arg3 : FVec F S258x1x256 .f32) (main_arg4 : FVec F S128x129x3 .f32) (main_arg5 : FVec F S128 .f32) (main_arg6 : FVec F S64x128x3 .f32) (main_arg7 : FVec F S64 .f32) (main_arg8 : FVec F S64x64x3 .f32) (main_arg9 : FVec F S64 .f32) (main_arg10 : FVec F S128x64x3 .f32) (main_arg11 : FVec F S128 .f32) (main_arg12 : FVec F S512x128 .f32) (main_arg13 : FVec F S512x128 .f32) (main_arg14 : FVec F S512 .f32) (main_arg15 : FVec F S512 .f32) (main_arg16 : FVec F S1x128 .f32) (main_arg17 : FVec F S1 .f32) : IVec S_ 1 :=
  let main_v0 : FVec F S8192x576 .f32 := (extractStridedSlice S8192x576 ![0, 0] · slices_S8192x4160_S8192x576_0_0) main_arg0
  let main_v1 : FVec F S8192x576 .f32 := (extractStridedSlice S8192x576 ![0, 512] · slices_S8192x4160_S8192x576_0_512) main_arg0
  let main_v2 : FVec F S8192x576 .f32 := (extractStridedSlice S8192x576 ![0, 1024] · slices_S8192x4160_S8192x576_0_1024) main_arg0
  let main_v3 : FVec F S8192x576 .f32 := (extractStridedSlice S8192x576 ![0, 1536] · slices_S8192x4160_S8192x576_0_1536) main_arg0
  let main_v4 : FVec F S8192x576 .f32 := (extractStridedSlice S8192x576 ![0, 2048] · slices_S8192x4160_S8192x576_0_2048) main_arg0
  let main_v5 : FVec F S8192x576 .f32 := (extractStridedSlice S8192x576 ![0, 2560] · slices_S8192x4160_S8192x576_0_2560) main_arg0
  let main_v6 : FVec F S8192x576 .f32 := (extractStridedSlice S8192x576 ![0, 3072] · slices_S8192x4160_S8192x576_0_3072) main_arg0
  let main_v7 : FVec F S8192x576 .f32 := (extractStridedSlice S8192x576 ![0, 3584] · slices_S8192x4160_S8192x576_0_3584) main_arg0
  let main_v8 : FVec F S1x8192x576 .f32 := broadcastInDim S1x8192x576 ![1, 2] bcast_S8192x576_S1x8192x576_1_2 main_v0
  let main_v9 : FVec F S1x8192x576 .f32 := broadcastInDim S1x8192x576 ![1, 2] bcast_S8192x576_S1x8192x576_1_2 main_v1
  let main_v10 : FVec F S1x8192x576 .f32 := broadcastInDim S1x8192x576 ![1, 2] bcast_S8192x576_S1x8192x576_1_2 main_v2
  let main_v11 : FVec F S1x8192x576 .f32 := broadcastInDim S1x8192x576 ![1, 2] bcast_S8192x576_S1x8192x576_1_2 main_v3
  let main_v12 : FVec F S1x8192x576 .f32 := broadcastInDim S1x8192x576 ![1, 2] bcast_S8192x576_S1x8192x576_1_2 main_v4
  let main_v13 : FVec F S1x8192x576 .f32 := broadcastInDim S1x8192x576 ![1, 2] bcast_S8192x576_S1x8192x576_1_2 main_v5
  let main_v14 : FVec F S1x8192x576 .f32 := broadcastInDim S1x8192x576 ![1, 2] bcast_S8192x576_S1x8192x576_1_2 main_v6
  let main_v15 : FVec F S1x8192x576 .f32 := broadcastInDim S1x8192x576 ![1, 2] bcast_S8192x576_S1x8192x576_1_2 main_v7
  let main_v16 : FVec F S8x8192x576 .f32 := concatenate S8x8192x576 0 [⟨S1x8192x576, main_v8⟩, ⟨S1x8192x576, main_v9⟩, ⟨S1x8192x576, main_v10⟩, ⟨S1x8192x576, main_v11⟩, ⟨S1x8192x576, main_v12⟩, ⟨S1x8192x576, main_v13⟩, ⟨S1x8192x576, main_v14⟩, ⟨S1x8192x576, main_v15⟩] concatenates_S1x8192x576_S1x8192x576_S1x8192x576_S1x8192x576_S1x8192x576_S1x8192x576_S1x8192x576_S1x8192x576_S8x8192x576_d0
  let main_v17 : FVec F S65536x576 .f32 := shapeCast S65536x576 main_v16 shapeCasts_S8x8192x576_S65536x576
  let main_c : IVec S_ 32 := constantI S_ 32 0#32
  let main_v18 : FVec F S65536x704 .f32 := fn_pad (F := F) main_v17 main_c
  let main_v19 : FVec F S65536x256 .f32 := (extractStridedSlice S65536x256 ![0, 0] · slices_S65536x704_S65536x256_0_0) main_v18
  let main_v20 : FVec F S258x256 .f32 := shapeCast S258x256 main_arg3 shapeCasts_S258x1x256_S258x256
  let main_v21 : FVec F S256x258 .f32 := (transpose S256x258 [1, 0] · transposes_S258x256_S256x258_1_0) main_v20
  let main_v22 : FVec F S65536x258 .f32 := (fun l r => Host.dotGeneral dot_S65536x256_S256x258_S65536x258_1_0_0_1_n_n none l r) main_v19 main_v21
  fn_part1 (F := F) main_arg0 main_arg3 main_v18 main_v22
-- ==== Kernel.lean ====
abbrev S8192x4160 : Shape := ⟨2, ![8192, 4160]⟩
abbrev S8192x128 : Shape := ⟨2, ![8192, 128]⟩
abbrev S258x1x256 : Shape := ⟨3, ![258, 1, 256]⟩
abbrev S128x129x3 : Shape := ⟨3, ![128, 129, 3]⟩
abbrev S128 : Shape := ⟨1, ![128]⟩
abbrev S64x128x3 : Shape := ⟨3, ![64, 128, 3]⟩
abbrev S64 : Shape := ⟨1, ![64]⟩
abbrev S64x64x3 : Shape := ⟨3, ![64, 64, 3]⟩
abbrev S128x64x3 : Shape := ⟨3, ![128, 64, 3]⟩
abbrev S512x128 : Shape := ⟨2, ![512, 128]⟩
abbrev S512 : Shape := ⟨1, ![512]⟩
abbrev S1x128 : Shape := ⟨2, ![1, 128]⟩
abbrev S1 : Shape := ⟨1, ![1]⟩
abbrev S4160x8192 : Shape := ⟨2, ![4160, 8192]⟩
abbrev S258x256 : Shape := ⟨2, ![258, 256]⟩
abbrev S256x258 : Shape := ⟨2, ![256, 258]⟩
abbrev S192x258 : Shape := ⟨2, ![192, 258]⟩
abbrev S64x258 : Shape := ⟨2, ![64, 258]⟩
abbrev S_ : Shape := ⟨0, ![]⟩
abbrev S272x256 : Shape := ⟨2, ![272, 256]⟩
abbrev S256x129 : Shape := ⟨2, ![256, 129]⟩
abbrev S129x256 : Shape := ⟨2, ![129, 256]⟩
abbrev S192x129 : Shape := ⟨2, ![192, 129]⟩
abbrev S129x192 : Shape := ⟨2, ![129, 192]⟩
abbrev S2 : Shape := ⟨1, ![2]⟩
abbrev S512x544 : Shape := ⟨2, ![512, 544]⟩
abbrev S128x129x1 : Shape := ⟨3, ![128, 129, 1]⟩
abbrev S128x129 : Shape := ⟨2, ![128, 129]⟩
abbrev S4x128 : Shape := ⟨2, ![4, 128]⟩
abbrev S512x1 : Shape := ⟨2, ![512, 1]⟩
abbrev S512x1024 : Shape := ⟨2, ![512, 1024]⟩
abbrev S64x128 : Shape := ⟨2, ![64, 128]⟩
abbrev S64x128x1 : Shape := ⟨3, ![64, 128, 1]⟩
abbrev S64x512 : Shape := ⟨2, ![64, 512]⟩
abbrev S128x512 : Shape := ⟨2, ![128, 512]⟩
abbrev S128x1 : Shape := ⟨2, ![128, 1]⟩
abbrev S128x1024 : Shape := ⟨2, ![128, 1024]⟩
abbrev S64x64x1 : Shape := ⟨3, ![64, 64, 1]⟩
abbrev S64x64 : Shape := ⟨2, ![64, 64]⟩
abbrev S64x1 : Shape := ⟨2, ![64, 1]⟩
abbrev S64x1024 : Shape := ⟨2, ![64, 1024]⟩
abbrev S128x64x1 : Shape := ⟨3, ![128, 64, 1]⟩
abbrev S128x64 : Shape := ⟨2, ![128, 64]⟩
abbrev S512x256 : Shape := ⟨2, ![512, 256]⟩
abbrev S1x1 : Shape := ⟨2, ![1, 1]⟩
abbrev S1x1024 : Shape := ⟨2, ![1, 1024]⟩
abbrev S1x8192 : Shape := ⟨2, ![1, 8192]⟩
abbrev S4160x1024 : Shape := ⟨2, ![4160, 1024]⟩
abbrev S1024x128 : Shape := ⟨2, ![1024, 128]⟩
abbrev S576x1024 : Shape := ⟨2, ![576, 1024]⟩
abbrev S256x1024 : Shape := ⟨2, ![256, 1024]⟩
abbrev S272x1024 : Shape := ⟨2, ![272, 1024]⟩
abbrev S136x1024 : Shape := ⟨2, ![136, 1024]⟩
abbrev S544x1024 : Shape := ⟨2, ![544, 1024]⟩
abbrev S1024 : Shape := ⟨1, ![1024]⟩

abbrev nBuf : Space → Nat
  | .hbm => 191
  | .vmem => 26
  | .smem => 0
  | _ => 0

abbrev hbmTy0_0 (i : Nat) : BufTy := match i % 128 with
  | 0 => ⟨S8192x4160, .f32⟩
  | 1 => ⟨S8192x128, .f32⟩
  | 2 => ⟨S8192x128, .f32⟩
  | 3 => ⟨S258x1x256, .f32⟩
  | 4 => ⟨S128x129x3, .f32⟩
  | 5 => ⟨S128, .f32⟩
  | 6 => ⟨S64x128x3, .f32⟩
  | 7 => ⟨S64, .f32⟩
  | 8 => ⟨S64x64x3, .f32⟩
  | 9 => ⟨S64, .f32⟩
  | 10 => ⟨S128x64x3, .f32⟩
  | 11 => ⟨S128, .f32⟩
  | 12 => ⟨S512x128, .f32⟩
  | 13 => ⟨S512x128, .f32⟩
  | 14 => ⟨S512, .f32⟩
  | 15 => ⟨S512, .f32⟩
  | 16 => ⟨S1x128, .f32⟩
  | 17 => ⟨S1, .f32⟩
  | 18 => ⟨S4160x8192, .f32⟩
  | 19 => ⟨S258x256, .f32⟩
  | 20 => ⟨S256x258, .f32⟩
  | 21 => ⟨S192x258, .f32⟩
  | 22 => ⟨S64x258, .f32⟩
  | 23 => ⟨S64x258, .f32⟩
  | 24 => ⟨S_, .i32⟩
  | 25 => ⟨S1, .i32⟩
  | 26 => ⟨S192x258, .f32⟩
  | 27 => ⟨S_, .f32⟩
  | 28 => ⟨S272x256, .f32⟩
  | 29 => ⟨S256x129, .f32⟩
  | 30 => ⟨S129x256, .f32⟩
  | 31 => ⟨S_, .i32⟩
  | 32 => ⟨S1, .i32⟩
  | 33 => ⟨S272x256, .f32⟩
  | 34 => ⟨S256x129, .f32⟩
  | 35 => ⟨S129x256, .f32⟩
  | 36 => ⟨S_, .i32⟩
  | 37 => ⟨S1, .i32⟩
  | 38 => ⟨S272x256, .f32⟩
  | 39 => ⟨S272x256, .bf16⟩
  | 40 => ⟨S_, .f32⟩
  | 41 => ⟨S272x256, .f32⟩
  | 42 => ⟨S192x129, .f32⟩
  | 43 => ⟨S129x192, .f32⟩
  | 44 => ⟨S_, .i32⟩
  | 45 => ⟨S1, .i32⟩
  | 46 => ⟨S_, .i32⟩
  | 47 => ⟨S1, .i32⟩
  | 48 => ⟨S2, .i32⟩
  | 49 => ⟨S272x256, .f32⟩
  | 50 => ⟨S192x129, .f32⟩
  | 51 => ⟨S129x192, .f32⟩
  | 52 => ⟨S_, .i32⟩
  | 53 => ⟨S1, .i32⟩
  | 54 => ⟨S_, .i32⟩
  | 55 => ⟨S1, .i32⟩
  | 56 => ⟨S2, .i32⟩
  | 57 => ⟨S272x256, .f32⟩
  | 58 => ⟨S272x256, .bf16⟩
  | 59 => ⟨S_, .f32⟩
  | 60 => ⟨S512x544, .f32⟩
  | 61 => ⟨S128x129x1, .f32⟩
  | 62 => ⟨S128x129, .f32⟩
  | 63 => ⟨S_, .i32⟩
  | 64 => ⟨S1, .i32⟩
  | 65 => ⟨S_, .i32⟩
  | 66 => ⟨S1, .i32⟩
  | 67 => ⟨S2, .i32⟩
  | 68 => ⟨S512x544, .f32⟩
  | 69 => ⟨S128x129x1, .f32⟩
  | 70 => ⟨S128x129, .f32⟩
  | 71 => ⟨S_, .i32⟩
  | 72 => ⟨S1, .i32⟩
  | 73 => ⟨S_, .i32⟩
  | 74 => ⟨S1, .i32⟩
  | 75 => ⟨S2, .i32⟩
  | 76 => ⟨S512x544, .f32⟩
  | 77 => ⟨S128x129x1, .f32⟩
  | 78 => ⟨S128x129, .f32⟩
  | 79 => ⟨S_, .i32⟩
  | 80 => ⟨S1, .i32⟩
  | 81 => ⟨S_, .i32⟩
  | 82 => ⟨S1, .i32⟩
  | 83 => ⟨S2, .i32⟩
  | 84 => ⟨S512x544, .f32⟩
  | 85 => ⟨S128x129x1, .f32⟩
  | 86 => ⟨S128x129, .f32⟩
  | 87 => ⟨S_, .i32⟩
  | 88 => ⟨S1, .i32⟩
  | 89 => ⟨S_, .i32⟩
  | 90 => ⟨S1, .i32⟩
  | 91 => ⟨S2, .i32⟩
  | 92 => ⟨S512x544, .f32⟩
  | 93 => ⟨S128x129x1, .f32⟩
  | 94 => ⟨S128x129, .f32⟩
  | 95 => ⟨S_, .i32⟩
  | 96 => ⟨S1, .i32⟩
  | 97 => ⟨S_, .i32⟩
  | 98 => ⟨S1, .i32⟩
  | 99 => ⟨S2, .i32⟩
  | 100 => ⟨S512x544, .f32⟩
  | 101 => ⟨S128x129x1, .f32⟩
  | 102 => ⟨S128x129, .f32⟩
  | 103 => ⟨S_, .i32⟩
  | 104 => ⟨S1, .i32⟩
  | 105 => ⟨S_, .i32⟩
  | 106 => ⟨S1, .i32⟩
  | 107 => ⟨S2, .i32⟩
  | 108 => ⟨S512x544, .f32⟩
  | 109 => ⟨S128x129x1, .f32⟩
  | 110 => ⟨S128x129, .f32⟩
  | 111 => ⟨S_, .i32⟩
  | 112 => ⟨S1, .i32⟩
  | 113 => ⟨S_, .i32⟩
  | 114 => ⟨S1, .i32⟩
  | 115 => ⟨S2, .i32⟩
  | 116 => ⟨S512x544, .f32⟩
  | 117 => ⟨S128x129x1, .f32⟩
  | 118 => ⟨S128x129, .f32⟩
  | 119 => ⟨S_, .i32⟩
  | 120 => ⟨S1, .i32⟩
  | 121 => ⟨S_, .i32⟩
  | 122 => ⟨S1, .i32⟩
  | 123 => ⟨S2, .i32⟩
  | 124 => ⟨S512x544, .f32⟩
  | 125 => ⟨S128x129x1, .f32⟩
  | 126 => ⟨S128x129, .f32⟩
  | 127 => ⟨S_, .i32⟩
  | _ => ⟨S8192x4160, .f32⟩

abbrev hbmTy0_1 (i : Nat) : BufTy := match i % 128 with
  | 0 => ⟨S1, .i32⟩
  | 1 => ⟨S_, .i32⟩
  | 2 => ⟨S1, .i32⟩
  | 3 => ⟨S2, .i32⟩
  | 4 => ⟨S512x544, .f32⟩
  | 5 => ⟨S128x129x1, .f32⟩
  | 6 => ⟨S128x129, .f32⟩
  | 7 => ⟨S_, .i32⟩
  | 8 => ⟨S1, .i32⟩
  | 9 => ⟨S_, .i32⟩
  | 10 => ⟨S1, .i32⟩
  | 11 => ⟨S2, .i32⟩
  | 12 => ⟨S512x544, .f32⟩
  | 13 => ⟨S512x544, .bf16⟩
  | 14 => ⟨S1x128, .f32⟩
  | 15 => ⟨S4x128, .f32⟩
  | 16 => ⟨S512, .f32⟩
  | 17 => ⟨S512x1, .f32⟩
  | 18 => ⟨S512x1024, .f32⟩
  | 19 => ⟨S_, .f32⟩
  | 20 => ⟨S64x128, .f32⟩
  | 21 => ⟨S64x128x1, .f32⟩
  | 22 => ⟨S64x128, .f32⟩
  | 23 => ⟨S64x128x1, .f32⟩
  | 24 => ⟨S64x128, .f32⟩
  | 25 => ⟨S64x512, .f32⟩
  | 26 => ⟨S64x128x1, .f32⟩
  | 27 => ⟨S64x128, .f32⟩
  | 28 => ⟨S64x128x1, .f32⟩
  | 29 => ⟨S64x128, .f32⟩
  | 30 => ⟨S64x128x1, .f32⟩
  | 31 => ⟨S64x128, .f32⟩
  | 32 => ⟨S64x512, .f32⟩
  | 33 => ⟨S128x512, .f32⟩
  | 34 => ⟨S128x512, .bf16⟩
  | 35 => ⟨S128, .f32⟩
  | 36 => ⟨S128x1, .f32⟩
  | 37 => ⟨S128x1024, .f32⟩
  | 38 => ⟨S64x64x1, .f32⟩
  | 39 => ⟨S64x64, .f32⟩
  | 40 => ⟨S64x64x1, .f32⟩
  | 41 => ⟨S64x64, .f32⟩
  | 42 => ⟨S64x128, .f32⟩
  | 43 => ⟨S64x128, .bf16⟩
  | 44 => ⟨S64x1, .f32⟩
  | 45 => ⟨S64x1024, .f32⟩
  | 46 => ⟨S128x64x1, .f32⟩
  | 47 => ⟨S128x64, .f32⟩
  | 48 => ⟨S128x64, .bf16⟩
  | 49 => ⟨S128x1, .f32⟩
  | 50 => ⟨S128x1024, .f32⟩
  | 51 => ⟨S512x256, .f32⟩
  | 52 => ⟨S512x256, .bf16⟩
  | 53 => ⟨S512, .f32⟩
  | 54 => ⟨S512x1, .f32⟩
  | 55 => ⟨S512x1024, .f32⟩
  | 56 => ⟨S128x1, .f32⟩
  | 57 => ⟨S128x1024, .f32⟩
  | 58 => ⟨S1x1, .f32⟩
  | 59 => ⟨S1x1024, .f32⟩
  | 60 => ⟨S1x8192, .f32⟩
  | 61 => ⟨S8192x128, .f32⟩
  | 62 => ⟨S8192x128, .f32⟩
  | _ => ⟨S8192x4160, .f32⟩

abbrev hbmTy (i : Nat) : BufTy := match i / 128 with
  | 0 => hbmTy0_0 i
  | 1 => hbmTy0_1 i
  | _ => ⟨S8192x4160, .f32⟩

abbrev bufTy : (tb : Table) → Fin (tcTables nBuf tb) → BufTy
  | .hbm, ⟨i, _⟩ => hbmTy i
  | .local _ .vmem, ⟨0, _⟩ => ⟨S4160x1024, .f32⟩
  | .local _ .vmem, ⟨1, _⟩ => ⟨S4160x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S272x256, .bf16⟩
  | .local _ .vmem, ⟨7, _⟩ => ⟨S272x256, .bf16⟩
  | .local _ .vmem, ⟨8, _⟩ => ⟨S512x544, .bf16⟩
  | .local _ .vmem, ⟨9, _⟩ => ⟨S512x1024, .f32⟩
  | .local _ .vmem, ⟨10, _⟩ => ⟨S128x512, .bf16⟩
  | .local _ .vmem, ⟨11, _⟩ => ⟨S128x1024, .f32⟩
  | .local _ .vmem, ⟨12, _⟩ => ⟨S64x128, .bf16⟩
  | .local _ .vmem, ⟨13, _⟩ => ⟨S64x1024, .f32⟩
  | .local _ .vmem, ⟨14, _⟩ => ⟨S128x64, .bf16⟩
  | .local _ .vmem, ⟨15, _⟩ => ⟨S128x1024, .f32⟩
  | .local _ .vmem, ⟨16, _⟩ => ⟨S512x256, .bf16⟩
  | .local _ .vmem, ⟨17, _⟩ => ⟨S512x1024, .f32⟩
  | .local _ .vmem, ⟨18, _⟩ => ⟨S128x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | _, _ => ⟨S8192x4160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c_1 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_c_9 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_10 : Ref sig .tc := ⟨.hbm, 71, rfl⟩
abbrev main_v41 : Ref sig .tc := ⟨.hbm, 72, rfl⟩
abbrev main_c_11 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_c_12 : Ref sig .tc := ⟨.hbm, 79, rfl⟩
abbrev main_v47 : Ref sig .tc := ⟨.hbm, 80, rfl⟩
abbrev main_c_13 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_14 : Ref sig .tc := ⟨.hbm, 87, rfl⟩
abbrev main_v53 : Ref sig .tc := ⟨.hbm, 88, rfl⟩
abbrev main_c_15 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_c_16 : Ref sig .tc := ⟨.hbm, 95, rfl⟩
abbrev main_v59 : Ref sig .tc := ⟨.hbm, 96, rfl⟩
abbrev main_c_17 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_18 : Ref sig .tc := ⟨.hbm, 103, rfl⟩
abbrev main_v65 : Ref sig .tc := ⟨.hbm, 104, rfl⟩
abbrev main_c_19 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_c_20 : Ref sig .tc := ⟨.hbm, 111, rfl⟩
abbrev main_v71 : Ref sig .tc := ⟨.hbm, 112, rfl⟩
abbrev main_c_21 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_c_22 : Ref sig .tc := ⟨.hbm, 119, rfl⟩
abbrev main_v77 : Ref sig .tc := ⟨.hbm, 120, rfl⟩
abbrev main_c_23 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_c_24 : Ref sig .tc := ⟨.hbm, 127, rfl⟩
abbrev main_v83 : Ref sig .tc := ⟨.hbm, 128, rfl⟩
abbrev main_c_25 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_c_26 : Ref sig .tc := ⟨.hbm, 135, rfl⟩
abbrev main_v89 : Ref sig .tc := ⟨.hbm, 136, rfl⟩
abbrev main_c_27 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_28 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139_0 : Ref sig .tc := ⟨.hbm, 188, rfl⟩
abbrev main_v139_1 : Ref sig .tc := ⟨.hbm, 189, rfl⟩
abbrev main_v139_2 : Ref sig .tc := ⟨.hbm, 190, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4160x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S272x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S272x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x544 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S8192x4160 : Shape := ⟨2, ![8192, 4160]⟩
abbrev S8192x128 : Shape := ⟨2, ![8192, 128]⟩
abbrev S258x1x256 : Shape := ⟨3, ![258, 1, 256]⟩
abbrev S128x129x3 : Shape := ⟨3, ![128, 129, 3]⟩
abbrev S128 : Shape := ⟨1, ![128]⟩
abbrev S64x128x3 : Shape := ⟨3, ![64, 128, 3]⟩
abbrev S64 : Shape := ⟨1, ![64]⟩
abbrev S64x64x3 : Shape := ⟨3, ![64, 64, 3]⟩
abbrev S128x64x3 : Shape := ⟨3, ![128, 64, 3]⟩
abbrev S512x128 : Shape := ⟨2, ![512, 128]⟩
abbrev S512 : Shape := ⟨1, ![512]⟩
abbrev S1x128 : Shape := ⟨2, ![1, 128]⟩
abbrev S1 : Shape := ⟨1, ![1]⟩
abbrev S8192x576 : Shape := ⟨2, ![8192, 576]⟩
abbrev S1x8192x576 : Shape := ⟨3, ![1, 8192, 576]⟩
abbrev S8x8192x576 : Shape := ⟨3, ![8, 8192, 576]⟩
abbrev S65536x576 : Shape := ⟨2, ![65536, 576]⟩
abbrev S_ : Shape := ⟨0, ![]⟩
abbrev S65536x1 : Shape := ⟨2, ![65536, 1]⟩
abbrev S65536x64 : Shape := ⟨2, ![65536, 64]⟩
abbrev S65536x640 : Shape := ⟨2, ![65536, 640]⟩
abbrev S65536x704 : Shape := ⟨2, ![65536, 704]⟩
abbrev S65536x256 : Shape := ⟨2, ![65536, 256]⟩
abbrev S258x256 : Shape := ⟨2, ![258, 256]⟩
abbrev S256x258 : Shape := ⟨2, ![256, 258]⟩
abbrev S65536x258 : Shape := ⟨2, ![65536, 258]⟩
abbrev S65536x258x1 : Shape := ⟨3, ![65536, 258, 1]⟩
abbrev S65536x258x4 : Shape := ⟨3, ![65536, 258, 4]⟩
abbrev S65536x129x4 : Shape := ⟨3, ![65536, 129, 4]⟩
abbrev S65536x129x6 : Shape := ⟨3, ![65536, 129, 6]⟩
abbrev S128x129x1 : Shape := ⟨3, ![128, 129, 1]⟩
abbrev S128x129 : Shape := ⟨2, ![128, 129]⟩
abbrev S65536x4x128 : Shape := ⟨3, ![65536, 4, 128]⟩
abbrev S65536x128x4 : Shape := ⟨3, ![65536, 128, 4]⟩
abbrev S1x128x1 : Shape := ⟨3, ![1, 128, 1]⟩
abbrev S65536x128x6 : Shape := ⟨3, ![65536, 128, 6]⟩
abbrev S64x128x1 : Shape := ⟨3, ![64, 128, 1]⟩
abbrev S64x128 : Shape := ⟨2, ![64, 128]⟩
abbrev S65536x128x2 : Shape := ⟨3, ![65536, 128, 2]⟩
abbrev S65536x2x64 : Shape := ⟨3, ![65536, 2, 64]⟩
abbrev S65536x64x2 : Shape := ⟨3, ![65536, 64, 2]⟩
abbrev S1x64x1 : Shape := ⟨3, ![1, 64, 1]⟩
abbrev S65536x64x4 : Shape := ⟨3, ![65536, 64, 4]⟩
abbrev S64x64x1 : Shape := ⟨3, ![64, 64, 1]⟩
abbrev S64x64 : Shape := ⟨2, ![64, 64]⟩
abbrev S65536x64x1 : Shape := ⟨3, ![65536, 64, 1]⟩
abbrev S65536x1x64 : Shape := ⟨3, ![65536, 1, 64]⟩
abbrev S65536x64x3 : Shape := ⟨3, ![65536, 64, 3]⟩
abbrev S128x64x1 : Shape := ⟨3, ![128, 64, 1]⟩
abbrev S128x64 : Shape := ⟨2, ![128, 64]⟩
abbrev S65536x1x128 : Shape := ⟨3, ![65536, 1, 128]⟩
abbrev S65536x128x1 : Shape := ⟨3, ![65536, 128, 1]⟩
abbrev S65536x128 : Shape := ⟨2, ![65536, 128]⟩
abbrev S8x8192x128 : Shape := ⟨3, ![8, 8192, 128]⟩
abbrev S8x8192x1 : Shape := ⟨3, ![8, 8192, 1]⟩
abbrev S1x8192x128 : Shape := ⟨3, ![1, 8192, 128]⟩
abbrev S128x512 : Shape := ⟨2, ![128, 512]⟩
abbrev S8192x512 : Shape := ⟨2, ![8192, 512]⟩
abbrev S1x512 : Shape := ⟨2, ![1, 512]⟩
abbrev S128x1 : Shape := ⟨2, ![128, 1]⟩
abbrev S8192x1 : Shape := ⟨2, ![8192, 1]⟩
abbrev S1x1 : Shape := ⟨2, ![1, 1]⟩
abbrev S1x8192x1 : Shape := ⟨3, ![1, 8192, 1]⟩
abbrev S8192x1x1 : Shape := ⟨3, ![8192, 1, 1]⟩
abbrev S1x8192 : Shape := ⟨2, ![1, 8192]⟩

abbrev nBuf : Space → Nat
  | .hbm => 305
  | .vmem => 0
  | .smem => 0
  | _ => 0

abbrev hbmTy0_0 (i : Nat) : BufTy := match i % 128 with
  | 0 => ⟨S8192x4160, .f32⟩
  | 1 => ⟨S8192x128, .f32⟩
  | 2 => ⟨S8192x128, .f32⟩
  | 3 => ⟨S258x1x256, .f32⟩
  | 4 => ⟨S128x129x3, .f32⟩
  | 5 => ⟨S128, .f32⟩
  | 6 => ⟨S64x128x3, .f32⟩
  | 7 => ⟨S64, .f32⟩
  | 8 => ⟨S64x64x3, .f32⟩
  | 9 => ⟨S64, .f32⟩
  | 10 => ⟨S128x64x3, .f32⟩
  | 11 => ⟨S128, .f32⟩
  | 12 => ⟨S512x128, .f32⟩
  | 13 => ⟨S512x128, .f32⟩
  | 14 => ⟨S512, .f32⟩
  | 15 => ⟨S512, .f32⟩
  | 16 => ⟨S1x128, .f32⟩
  | 17 => ⟨S1, .f32⟩
  | 18 => ⟨S8192x576, .f32⟩
  | 19 => ⟨S8192x576, .f32⟩
  | 20 => ⟨S8192x576, .f32⟩
  | 21 => ⟨S8192x576, .f32⟩
  | 22 => ⟨S8192x576, .f32⟩
  | 23 => ⟨S8192x576, .f32⟩
  | 24 => ⟨S8192x576, .f32⟩
  | 25 => ⟨S8192x576, .f32⟩
  | 26 => ⟨S1x8192x576, .f32⟩
  | 27 => ⟨S1x8192x576, .f32⟩
  | 28 => ⟨S1x8192x576, .f32⟩
  | 29 => ⟨S1x8192x576, .f32⟩
  | 30 => ⟨S1x8192x576, .f32⟩
  | 31 => ⟨S1x8192x576, .f32⟩
  | 32 => ⟨S1x8192x576, .f32⟩
  | 33 => ⟨S1x8192x576, .f32⟩
  | 34 => ⟨S8x8192x576, .f32⟩
  | 35 => ⟨S65536x576, .f32⟩
  | 36 => ⟨S_, .i32⟩
  | 37 => ⟨S65536x1, .f32⟩
  | 38 => ⟨S65536x64, .f32⟩
  | 39 => ⟨S65536x64, .f32⟩
  | 40 => ⟨S65536x640, .f32⟩
  | 41 => ⟨S65536x1, .f32⟩
  | 42 => ⟨S65536x64, .f32⟩
  | 43 => ⟨S65536x64, .f32⟩
  | 44 => ⟨S65536x704, .f32⟩
  | 45 => ⟨S65536x256, .f32⟩
  | 46 => ⟨S258x256, .f32⟩
  | 47 => ⟨S256x258, .f32⟩
  | 48 => ⟨S65536x258, .f32⟩
  | 49 => ⟨S65536x256, .f32⟩
  | 50 => ⟨S258x256, .f32⟩
  | 51 => ⟨S256x258, .f32⟩
  | 52 => ⟨S65536x258, .f32⟩
  | 53 => ⟨S65536x256, .f32⟩
  | 54 => ⟨S258x256, .f32⟩
  | 55 => ⟨S256x258, .f32⟩
  | 56 => ⟨S65536x258, .f32⟩
  | 57 => ⟨S65536x256, .f32⟩
  | 58 => ⟨S258x256, .f32⟩
  | 59 => ⟨S256x258, .f32⟩
  | 60 => ⟨S65536x258, .f32⟩
  | 61 => ⟨S65536x258x1, .f32⟩
  | 62 => ⟨S65536x258x1, .f32⟩
  | 63 => ⟨S65536x258x1, .f32⟩
  | 64 => ⟨S65536x258x1, .f32⟩
  | 65 => ⟨S65536x258x4, .f32⟩
  | 66 => ⟨S65536x129x4, .f32⟩
  | 67 => ⟨S65536x129x4, .f32⟩
  | 68 => ⟨S65536x129x4, .f32⟩
  | 69 => ⟨S65536x129x4, .f32⟩
  | 70 => ⟨S65536x129x4, .f32⟩
  | 71 => ⟨S65536x129x4, .f32⟩
  | 72 => ⟨S_, .i32⟩
  | 73 => ⟨S_, .f32⟩
  | 74 => ⟨S65536x129x6, .f32⟩
  | 75 => ⟨S128x129x1, .f32⟩
  | 76 => ⟨S128x129, .f32⟩
  | 77 => ⟨S65536x129x4, .f32⟩
  | 78 => ⟨S65536x4x128, .f32⟩
  | 79 => ⟨S65536x128x4, .f32⟩
  | 80 => ⟨S_, .f32⟩
  | 81 => ⟨S65536x128x4, .f32⟩
  | 82 => ⟨S65536x128x4, .f32⟩
  | 83 => ⟨S128x129x1, .f32⟩
  | 84 => ⟨S128x129, .f32⟩
  | 85 => ⟨S65536x129x4, .f32⟩
  | 86 => ⟨S65536x4x128, .f32⟩
  | 87 => ⟨S65536x128x4, .f32⟩
  | 88 => ⟨S65536x128x4, .f32⟩
  | 89 => ⟨S128x129x1, .f32⟩
  | 90 => ⟨S128x129, .f32⟩
  | 91 => ⟨S65536x129x4, .f32⟩
  | 92 => ⟨S65536x4x128, .f32⟩
  | 93 => ⟨S65536x128x4, .f32⟩
  | 94 => ⟨S65536x128x4, .f32⟩
  | 95 => ⟨S1x128x1, .f32⟩
  | 96 => ⟨S65536x128x4, .f32⟩
  | 97 => ⟨S65536x128x4, .f32⟩
  | 98 => ⟨S_, .f32⟩
  | 99 => ⟨S65536x128x4, .f32⟩
  | 100 => ⟨S65536x128x4, .f32⟩
  | 101 => ⟨S_, .i32⟩
  | 102 => ⟨S_, .f32⟩
  | 103 => ⟨S65536x128x6, .f32⟩
  | 104 => ⟨S64x128x1, .f32⟩
  | 105 => ⟨S64x128, .f32⟩
  | 106 => ⟨S65536x128x2, .f32⟩
  | 107 => ⟨S65536x2x64, .f32⟩
  | 108 => ⟨S65536x64x2, .f32⟩
  | 109 => ⟨S_, .f32⟩
  | 110 => ⟨S65536x64x2, .f32⟩
  | 111 => ⟨S65536x64x2, .f32⟩
  | 112 => ⟨S64x128x1, .f32⟩
  | 113 => ⟨S64x128, .f32⟩
  | 114 => ⟨S65536x128x2, .f32⟩
  | 115 => ⟨S65536x2x64, .f32⟩
  | 116 => ⟨S65536x64x2, .f32⟩
  | 117 => ⟨S65536x64x2, .f32⟩
  | 118 => ⟨S64x128x1, .f32⟩
  | 119 => ⟨S64x128, .f32⟩
  | 120 => ⟨S65536x128x2, .f32⟩
  | 121 => ⟨S65536x2x64, .f32⟩
  | 122 => ⟨S65536x64x2, .f32⟩
  | 123 => ⟨S65536x64x2, .f32⟩
  | 124 => ⟨S1x64x1, .f32⟩
  | 125 => ⟨S65536x64x2, .f32⟩
  | 126 => ⟨S65536x64x2, .f32⟩
  | 127 => ⟨S_, .f32⟩
  | _ => ⟨S8192x4160, .f32⟩

abbrev hbmTy0_1 (i : Nat) : BufTy := match i % 128 with
  | 0 => ⟨S65536x64x2, .f32⟩
  | 1 => ⟨S65536x64x2, .f32⟩
  | 2 => ⟨S_, .i32⟩
  | 3 => ⟨S_, .f32⟩
  | 4 => ⟨S65536x64x4, .f32⟩
  | 5 => ⟨S64x64x1, .f32⟩
  | 6 => ⟨S64x64, .f32⟩
  | 7 => ⟨S65536x64x1, .f32⟩
  | 8 => ⟨S65536x1x64, .f32⟩
  | 9 => ⟨S65536x64x1, .f32⟩
  | 10 => ⟨S_, .f32⟩
  | 11 => ⟨S65536x64x1, .f32⟩
  | 12 => ⟨S65536x64x1, .f32⟩
  | 13 => ⟨S64x64x1, .f32⟩
  | 14 => ⟨S64x64, .f32⟩
  | 15 => ⟨S65536x64x1, .f32⟩
  | 16 => ⟨S65536x1x64, .f32⟩
  | 17 => ⟨S65536x64x1, .f32⟩
  | 18 => ⟨S65536x64x1, .f32⟩
  | 19 => ⟨S64x64x1, .f32⟩
  | 20 => ⟨S64x64, .f32⟩
  | 21 => ⟨S65536x64x1, .f32⟩
  | 22 => ⟨S65536x1x64, .f32⟩
  | 23 => ⟨S65536x64x1, .f32⟩
  | 24 => ⟨S65536x64x1, .f32⟩
  | 25 => ⟨S1x64x1, .f32⟩
  | 26 => ⟨S65536x64x1, .f32⟩
  | 27 => ⟨S65536x64x1, .f32⟩
  | 28 => ⟨S_, .f32⟩
  | 29 => ⟨S65536x64x1, .f32⟩
  | 30 => ⟨S65536x64x1, .f32⟩
  | 31 => ⟨S_, .i32⟩
  | 32 => ⟨S_, .f32⟩
  | 33 => ⟨S65536x64x3, .f32⟩
  | 34 => ⟨S128x64x1, .f32⟩
  | 35 => ⟨S128x64, .f32⟩
  | 36 => ⟨S65536x64x1, .f32⟩
  | 37 => ⟨S65536x1x128, .f32⟩
  | 38 => ⟨S65536x128x1, .f32⟩
  | 39 => ⟨S_, .f32⟩
  | 40 => ⟨S65536x128x1, .f32⟩
  | 41 => ⟨S65536x128x1, .f32⟩
  | 42 => ⟨S128x64x1, .f32⟩
  | 43 => ⟨S128x64, .f32⟩
  | 44 => ⟨S65536x64x1, .f32⟩
  | 45 => ⟨S65536x1x128, .f32⟩
  | 46 => ⟨S65536x128x1, .f32⟩
  | 47 => ⟨S65536x128x1, .f32⟩
  | 48 => ⟨S128x64x1, .f32⟩
  | 49 => ⟨S128x64, .f32⟩
  | 50 => ⟨S65536x64x1, .f32⟩
  | 51 => ⟨S65536x1x128, .f32⟩
  | 52 => ⟨S65536x128x1, .f32⟩
  | 53 => ⟨S65536x128x1, .f32⟩
  | 54 => ⟨S1x128x1, .f32⟩
  | 55 => ⟨S65536x128x1, .f32⟩
  | 56 => ⟨S65536x128x1, .f32⟩
  | 57 => ⟨S_, .f32⟩
  | 58 => ⟨S65536x128x1, .f32⟩
  | 59 => ⟨S65536x128x1, .f32⟩
  | 60 => ⟨S65536x128, .f32⟩
  | 61 => ⟨S8x8192x128, .f32⟩
  | 62 => ⟨S_, .f32⟩
  | 63 => ⟨S8x8192x1, .f32⟩
  | 64 => ⟨S_, .i32⟩
  | 65 => ⟨S8x8192x128, .f32⟩
  | 66 => ⟨S512x128, .f32⟩
  | 67 => ⟨S512, .f32⟩
  | 68 => ⟨S512x128, .f32⟩
  | 69 => ⟨S512, .f32⟩
  | 70 => ⟨S1x128, .f32⟩
  | 71 => ⟨S1, .f32⟩
  | 72 => ⟨S_, .i32⟩
  | 73 => ⟨S8192x128, .f32⟩
  | 74 => ⟨S8192x128, .f32⟩
  | 75 => ⟨S8x8192x1, .f32⟩
  | 76 => ⟨S_, .i32⟩
  | 77 => ⟨S_, .i1⟩
  | 78 => ⟨S_, .i32⟩
  | 79 => ⟨S_, .i32⟩
  | 80 => ⟨S1x8192x128, .f32⟩
  | 81 => ⟨S8192x128, .f32⟩
  | 82 => ⟨S128x512, .f32⟩
  | 83 => ⟨S8192x512, .f32⟩
  | 84 => ⟨S1x512, .f32⟩
  | 85 => ⟨S8192x512, .f32⟩
  | 86 => ⟨S8192x512, .f32⟩
  | 87 => ⟨S128x512, .f32⟩
  | 88 => ⟨S8192x512, .f32⟩
  | 89 => ⟨S8192x512, .f32⟩
  | 90 => ⟨S1x512, .f32⟩
  | 91 => ⟨S8192x512, .f32⟩
  | 92 => ⟨S8192x512, .f32⟩
  | 93 => ⟨S8192x128, .f32⟩
  | 94 => ⟨S8192x128, .f32⟩
  | 95 => ⟨S8192x128, .f32⟩
  | 96 => ⟨S8192x128, .f32⟩
  | 97 => ⟨S8192x128, .f32⟩
  | 98 => ⟨S8192x128, .f32⟩
  | 99 => ⟨S_, .f32⟩
  | 100 => ⟨S8192x128, .f32⟩
  | 101 => ⟨S8192x128, .f32⟩
  | 102 => ⟨S_, .f32⟩
  | 103 => ⟨S8192x128, .f32⟩
  | 104 => ⟨S8192x128, .f32⟩
  | 105 => ⟨S8192x128, .f32⟩
  | 106 => ⟨S8192x128, .f32⟩
  | 107 => ⟨S8192x128, .f32⟩
  | 108 => ⟨S_, .f32⟩
  | 109 => ⟨S8192x128, .f32⟩
  | 110 => ⟨S8192x128, .f32⟩
  | 111 => ⟨S_, .f32⟩
  | 112 => ⟨S8192x128, .f32⟩
  | 113 => ⟨S8192x128, .f32⟩
  | 114 => ⟨S8192x128, .f32⟩
  | 115 => ⟨S8192x128, .f32⟩
  | 116 => ⟨S8192x128, .f32⟩
  | 117 => ⟨S8192x128, .f32⟩
  | 118 => ⟨S8192x128, .f32⟩
  | 119 => ⟨S_, .f32⟩
  | 120 => ⟨S8192x128, .f32⟩
  | 121 => ⟨S8192x128, .f32⟩
  | 122 => ⟨S_, .f32⟩
  | 123 => ⟨S8192x128, .f32⟩
  | 124 => ⟨S8192x128, .f32⟩
  | 125 => ⟨S8192x128, .f32⟩
  | 126 => ⟨S8192x128, .f32⟩
  | 127 => ⟨S128x1, .f32⟩
  | _ => ⟨S8192x4160, .f32⟩

abbrev hbmTy0_2 (i : Nat) : BufTy := match i % 128 with
  | 0 => ⟨S8192x1, .f32⟩
  | 1 => ⟨S1x1, .f32⟩
  | 2 => ⟨S8192x1, .f32⟩
  | 3 => ⟨S8192x1, .f32⟩
  | 4 => ⟨S8192x1, .f32⟩
  | 5 => ⟨S8192x1, .f32⟩
  | 6 => ⟨S_, .f32⟩
  | 7 => ⟨S8192x1, .f32⟩
  | 8 => ⟨S8192x1, .f32⟩
  | 9 => ⟨S_, .f32⟩
  | 10 => ⟨S8192x1, .f32⟩
  | 11 => ⟨S8192x1, .f32⟩
  | 12 => ⟨S1x8192x1, .f32⟩
  | 13 => ⟨S_, .i32⟩
  | 14 => ⟨S_, .i32⟩
  | 15 => ⟨S8x8192x1, .f32⟩
  | 16 => ⟨S_, .i32⟩
  | 17 => ⟨S_, .i32⟩
  | 18 => ⟨S_, .f32⟩
  | 19 => ⟨S8x8192x1, .f32⟩
  | 20 => ⟨S8x8192x1, .f32⟩
  | 21 => ⟨S1x8192x1, .f32⟩
  | 22 => ⟨S8192x1, .f32⟩
  | 23 => ⟨S1x8192x1, .f32⟩
  | 24 => ⟨S8192x1, .f32⟩
  | 25 => ⟨S8192x1, .f32⟩
  | 26 => ⟨S1x8192x1, .f32⟩
  | 27 => ⟨S8192x1, .f32⟩
  | 28 => ⟨S8192x1, .f32⟩
  | 29 => ⟨S1x8192x1, .f32⟩
  | 30 => ⟨S8192x1, .f32⟩
  | 31 => ⟨S8192x1, .f32⟩
  | 32 => ⟨S1x8192x1, .f32⟩
  | 33 => ⟨S8192x1, .f32⟩
  | 34 => ⟨S8192x1, .f32⟩
  | 35 => ⟨S1x8192x1, .f32⟩
  | 36 => ⟨S8192x1, .f32⟩
  | 37 => ⟨S8192x1, .f32⟩
  | 38 => ⟨S1x8192x1, .f32⟩
  | 39 => ⟨S8192x1, .f32⟩
  | 40 => ⟨S8192x1, .f32⟩
  | 41 => ⟨S1x8192x1, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1x1, .f32⟩
  | 48 => ⟨S1x8192, .f32⟩
  | _ => ⟨S8192x4160, .f32⟩

abbrev hbmTy (i : Nat) : BufTy := match i / 128 with
  | 0 => hbmTy0_0 i
  | 1 => hbmTy0_1 i
  | 2 => hbmTy0_2 i
  | _ => ⟨S8192x4160, .f32⟩

abbrev bufTy : (tb : Table) → Fin (tcTables nBuf tb) → BufTy
  | .hbm, ⟨i, _⟩ => hbmTy i
  | _, _ => ⟨S8192x4160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_0 : Ref sig .tc := ⟨.hbm, 72, rfl⟩
abbrev main_call1_v0 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call2_cst : Ref sig .tc := ⟨.hbm, 98, rfl⟩
abbrev main_call2_v0 : Ref sig .tc := ⟨.hbm, 99, rfl⟩
abbrev main_v69 : Ref sig .tc := ⟨.hbm, 100, rfl⟩
abbrev main_c_1 : Ref sig .tc := ⟨.hbm, 101, rfl⟩
abbrev main_call3_v0 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_2 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call4_cst : Ref sig .tc := ⟨.hbm, 127, rfl⟩
abbrev main_call4_v0 : Ref sig .tc := ⟨.hbm, 128, rfl⟩
abbrev main_v93 : Ref sig .tc := ⟨.hbm, 129, rfl⟩
abbrev main_c_3 : Ref sig .tc := ⟨.hbm, 130, rfl⟩
abbrev main_call5_v0 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_4 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_call6_cst : Ref sig .tc := ⟨.hbm, 156, rfl⟩
abbrev main_call6_v0 : Ref sig .tc := ⟨.hbm, 157, rfl⟩
abbrev main_v117 : Ref sig .tc := ⟨.hbm, 158, rfl⟩
abbrev main_c_5 : Ref sig .tc := ⟨.hbm, 159, rfl⟩
abbrev main_call7_v0 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_cst_6 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_call8_cst : Ref sig .tc := ⟨.hbm, 185, rfl⟩
abbrev main_call8_v0 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_7 : Ref sig .tc := ⟨.hbm, 190, rfl⟩
abbrev main_v144 : Ref sig .tc := ⟨.hbm, 191, rfl⟩
abbrev main_c_8 : Ref sig .tc := ⟨.hbm, 192, rfl⟩
abbrev main_v145_0 : Ref sig .tc := ⟨.hbm, 193, rfl⟩
abbrev main_v145_1 : Ref sig .tc := ⟨.hbm, 194, rfl⟩
abbrev main_v145_2 : Ref sig .tc := ⟨.hbm, 195, rfl⟩
abbrev main_v145_3 : Ref sig .tc := ⟨.hbm, 196, rfl⟩
abbrev main_v145_4 : Ref sig .tc := ⟨.hbm, 197, rfl⟩
abbrev main_v145_5 : Ref sig .tc := ⟨.hbm, 198, rfl⟩
abbrev main_v145_6 : Ref sig .tc := ⟨.hbm, 199, rfl⟩
abbrev main_v145_7 : Ref sig .tc := ⟨.hbm, 200, rfl⟩
abbrev main_v145_8 : Ref sig .tc := ⟨.hbm, 201, rfl⟩
abbrev main_v145_9 : Ref sig .tc := ⟨.hbm, 202, rfl⟩
abbrev main_v145_10 : Ref sig .tc := ⟨.hbm, 203, rfl⟩
abbrev main_while0c_c_21 : Ref sig .tc := ⟨.hbm, 204, rfl⟩
abbrev main_while0c_v175 : Ref sig .tc := ⟨.hbm, 205, rfl⟩
abbrev main_while0b_call9_c : Ref sig .tc := ⟨.hbm, 206, rfl⟩
abbrev main_while0b_call9_c_0 : Ref sig .tc := ⟨.hbm, 207, rfl⟩
abbrev main_while0b_call9_v0 : Ref sig .tc := ⟨.hbm, 208, rfl⟩
abbrev main_while0b_v175 : Ref sig .tc := ⟨.hbm, 209, rfl⟩
abbrev main_while0b_v176 : Ref sig .tc := ⟨.hbm, 210, rfl⟩
abbrev main_while0b_v177 : Ref sig .tc := ⟨.hbm, 211, rfl⟩
abbrev main_while0b_v178 : Ref sig .tc := ⟨.hbm, 212, rfl⟩
abbrev main_while0b_v179 : Ref sig .tc := ⟨.hbm, 213, rfl⟩
abbrev main_while0b_v180 : Ref sig .tc := ⟨.hbm, 214, rfl⟩
abbrev main_while0b_v181 : Ref sig .tc := ⟨.hbm, 215, rfl⟩
abbrev main_while0b_v182 : Ref sig .tc := ⟨.hbm, 216, rfl⟩
abbrev main_while0b_v183 : Ref sig .tc := ⟨.hbm, 217, rfl⟩
abbrev main_while0b_v184 : Ref sig .tc := ⟨.hbm, 218, rfl⟩
abbrev main_while0b_v185 : Ref sig .tc := ⟨.hbm, 219, rfl⟩
abbrev main_while0b_v186 : Ref sig .tc := ⟨.hbm, 220, rfl⟩
abbrev main_while0b_v187 : Ref sig .tc := ⟨.hbm, 221, rfl⟩
abbrev main_while0b_v188 : Ref sig .tc := ⟨.hbm, 222, rfl⟩
abbrev main_while0b_v189 : Ref sig .tc := ⟨.hbm, 223, rfl⟩
abbrev main_while0b_v190 : Ref sig .tc := ⟨.hbm, 224, rfl⟩
abbrev main_while0b_v191 : Ref sig .tc := ⟨.hbm, 225, rfl⟩
abbrev main_while0b_v192 : Ref sig .tc := ⟨.hbm, 226, rfl⟩
abbrev main_while0b_cst_21 : Ref sig .tc := ⟨.hbm, 227, rfl⟩
abbrev main_while0b_v193 : Ref sig .tc := ⟨.hbm, 228, rfl⟩
abbrev main_while0b_v194 : Ref sig .tc := ⟨.hbm, 229, rfl⟩
abbrev main_while0b_cst_22 : Ref sig .tc := ⟨.hbm, 230, rfl⟩
abbrev main_while0b_v195 : Ref sig .tc := ⟨.hbm, 231, rfl⟩
abbrev main_while0b_v196 : Ref sig .tc := ⟨.hbm, 232, rfl⟩
abbrev main_while0b_v197 : Ref sig .tc := ⟨.hbm, 233, rfl⟩
abbrev main_while0b_v198 : Ref sig .tc := ⟨.hbm, 234, rfl⟩
abbrev main_while0b_v199 : Ref sig .tc := ⟨.hbm, 235, rfl⟩
abbrev main_while0b_cst_23 : Ref sig .tc := ⟨.hbm, 236, rfl⟩
abbrev main_while0b_v200 : Ref sig .tc := ⟨.hbm, 237, rfl⟩
abbrev main_while0b_v201 : Ref sig .tc := ⟨.hbm, 238, rfl⟩
abbrev main_while0b_cst_24 : Ref sig .tc := ⟨.hbm, 239, rfl⟩
abbrev main_while0b_v202 : Ref sig .tc := ⟨.hbm, 240, rfl⟩
abbrev main_while0b_v203 : Ref sig .tc := ⟨.hbm, 241, rfl⟩
abbrev main_while0b_v204 : Ref sig .tc := ⟨.hbm, 242, rfl⟩
abbrev main_while0b_v205 : Ref sig .tc := ⟨.hbm, 243, rfl⟩
abbrev main_while0b_v206 : Ref sig .tc := ⟨.hbm, 244, rfl⟩
abbrev main_while0b_v207 : Ref sig .tc := ⟨.hbm, 245, rfl⟩
abbrev main_while0b_v208 : Ref sig .tc := ⟨.hbm, 246, rfl⟩
abbrev main_while0b_cst_25 : Ref sig .tc := ⟨.hbm, 247, rfl⟩
abbrev main_while0b_v209 : Ref sig .tc := ⟨.hbm, 248, rfl⟩
abbrev main_while0b_v210 : Ref sig .tc := ⟨.hbm, 249, rfl⟩
abbrev main_while0b_cst_26 : Ref sig .tc := ⟨.hbm, 250, rfl⟩
abbrev main_while0b_v211 : Ref sig .tc := ⟨.hbm, 251, rfl⟩
abbrev main_while0b_v212 : Ref sig .tc := ⟨.hbm, 252, rfl⟩
abbrev main_while0b_v213 : Ref sig .tc := ⟨.hbm, 253, rfl⟩
abbrev main_while0b_v214 : Ref sig .tc := ⟨.hbm, 254, rfl⟩
abbrev main_while0b_v215 : Ref sig .tc := ⟨.hbm, 255, rfl⟩
abbrev main_while0b_v216 : Ref sig .tc := ⟨.hbm, 256, rfl⟩
abbrev main_while0b_v217 : Ref sig .tc := ⟨.hbm, 257, rfl⟩
abbrev main_while0b_v218 : Ref sig .tc := ⟨.hbm, 258, rfl⟩
abbrev main_while0b_v219 : Ref sig .tc := ⟨.hbm, 259, rfl⟩
abbrev main_while0b_v220 : Ref sig .tc := ⟨.hbm, 260, rfl⟩
abbrev main_while0b_v221 : Ref sig .tc := ⟨.hbm, 261, rfl⟩
abbrev main_while0b_cst_27 : Ref sig .tc := ⟨.hbm, 262, rfl⟩
abbrev main_while0b_v222 : Ref sig .tc := ⟨.hbm, 263, rfl⟩
abbrev main_while0b_v223 : Ref sig .tc := ⟨.hbm, 264, rfl⟩
abbrev main_while0b_cst_28 : Ref sig .tc := ⟨.hbm, 265, rfl⟩
abbrev main_while0b_v224 : Ref sig .tc := ⟨.hbm, 266, rfl⟩
abbrev main_while0b_v225 : Ref sig .tc := ⟨.hbm, 267, rfl⟩
abbrev main_while0b_call10_v0 : Ref sig .tc := ⟨.hbm, 268, rfl⟩
abbrev main_while0b_call10_c : Ref sig .tc := ⟨.hbm, 269, rfl⟩
abbrev main_while0b_call10_c_0 : Ref sig .tc := ⟨.hbm, 270, rfl⟩
abbrev main_while0b_v226 : Ref sig .tc := ⟨.hbm, 271, rfl⟩
abbrev main_while0b_c_29 : Ref sig .tc := ⟨.hbm, 272, rfl⟩
abbrev main_while0b_v227 : Ref sig .tc := ⟨.hbm, 273, rfl⟩
abbrev main_cst_9 : Ref sig .tc := ⟨.hbm, 274, rfl⟩
abbrev main_v146 : Ref sig .tc := ⟨.hbm, 275, rfl⟩
abbrev main_v147 : Ref sig .tc := ⟨.hbm, 276, rfl⟩
abbrev main_v148 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_v152 : Ref sig .tc := ⟨.hbm, 281, rfl⟩
abbrev main_v153 : Ref sig .tc := ⟨.hbm, 282, rfl⟩
abbrev main_v154 : Ref sig .tc := ⟨.hbm, 283, rfl⟩
abbrev main_v155 : Ref sig .tc := ⟨.hbm, 284, rfl⟩
abbrev main_v156 : Ref sig .tc := ⟨.hbm, 285, rfl⟩
abbrev main_v157 : Ref sig .tc := ⟨.hbm, 286, rfl⟩
abbrev main_v158 : Ref sig .tc := ⟨.hbm, 287, rfl⟩
abbrev main_v159 : Ref sig .tc := ⟨.hbm, 288, rfl⟩
abbrev main_v160 : Ref sig .tc := ⟨.hbm, 289, rfl⟩
abbrev main_v161 : Ref sig .tc := ⟨.hbm, 290, rfl⟩
abbrev main_v162 : Ref sig .tc := ⟨.hbm, 291, rfl⟩
abbrev main_v163 : Ref sig .tc := ⟨.hbm, 292, rfl⟩
abbrev main_v164 : Ref sig .tc := ⟨.hbm, 293, rfl⟩
abbrev main_v165 : Ref sig .tc := ⟨.hbm, 294, rfl⟩
abbrev main_v166 : Ref sig .tc := ⟨.hbm, 295, rfl⟩
abbrev main_v167 : Ref sig .tc := ⟨.hbm, 296, rfl⟩
abbrev main_v168 : Ref sig .tc := ⟨.hbm, 297, rfl⟩
abbrev main_v169 : Ref sig .tc := ⟨.hbm, 298, rfl⟩
abbrev main_v170 : Ref sig .tc := ⟨.hbm, 299, rfl⟩
abbrev main_cst_10 : Ref sig .tc := ⟨.hbm, 300, rfl⟩
abbrev main_v171 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩

abbrev nD : Nat := 1
abbrev τ : Topo := Topo.v7x

variable {F : FTy → Type} [FloatOps F]

abbrev main_while0_count : Scf.Loop 32 := ⟨0#32, 8#32, 1#32⟩
-- ==== Proof.KernelBlock.lean ====
/-
  One block of the kernel, as functions of its arrays: the magnitudes of a chunk, the four layers, one LSTM step and one
  factor of the silence probability, and that the printed body is these functions in turn.
-/
module

public import proofs.«01_k».proof.Proof.Gen.KernelIdeal.Frame

@[expose] public section

set_option maxRecDepth 16384

noncomputable section

namespace Cert.Vad

open Idealize.ShloMosaic Idealize.ShloMosaic.TcCoe Idealize.SL.Sem Cert.KernelIdeal Cert.KernelIdeal.Gen

variable {F : FTy → Type} [FloatOps F]

/-! ## The functions of a block -/

/-- The magnitudes of one frame, from the filters' products with it. -/
def frameMag (w : FVec F S272x256 .bf16) (z : FVec F S256x1024 .bf16) : FVec F S136x1024 .f32 :=
  let s : FVec F S272x1024 .f32 := matmul dot_S272x256_S256x1024_S272x1024_1_0_0_1_n_n none w z (constant S272x1024 .f32 0x00000000#32)
  let re : FVec F S136x1024 .f32 := extractStridedSlice S136x1024 ![0, 0] s slices_S272x1024_o0_0_S136x1024
  let im : FVec F S136x1024 .f32 := extractStridedSlice S136x1024 ![136, 0] s slices_S272x1024_o136_0_S136x1024
  let p : FVec F S136x1024 .f32 := addf (mulf re re) (mulf im im)
  mulf p (rsqrt (maximumf p (broadcast S136x1024 (Scalar.ofBits .f32 0x02081CEA#32))))

/-- Four frames below one another. -/
def joined (a b c d : FVec F S136x1024 .f32) : FVec F S544x1024 .f32 :=
  concatenate S544x1024 0 [⟨S136x1024, a⟩, ⟨S136x1024, b⟩, ⟨S136x1024, c⟩, ⟨S136x1024, d⟩]
    concatenates_S136x1024_S136x1024_S136x1024_S136x1024_S544x1024_d0

/-- The samples of a chunk, rounded. -/
def rounded (y : FVec F S576x1024 .f32) : FVec F S576x1024 .bf16 :=
  truncf .bf16 (shapeCast S576x1024 y shapeCasts_S576x1024_S576x1024) bitsLt_bf16_f32

/-- The filters as loaded. -/
def filters (w : FVec F S272x256 .bf16) : FVec F S272x256 .bf16 := shapeCast S272x256 w shapeCasts_S272x256_S272x256

/-- The magnitudes of the four frames of a chunk `y`; the first frame has its own filters `w0`. -/
def mags (w0 w : FVec F S272x256 .bf16) (y : FVec F S576x1024 .f32) : FVec F S544x1024 .bf16 :=
  truncf .bf16 (joined
    (frameMag (filters w0) (extractStridedSlice S256x1024 ![0, 0] (rounded y) slices_S576x1024_o0_0_S256x1024))
    (frameMag (filters w) (extractStridedSlice S256x1024 ![64, 0] (rounded y) slices_S576x1024_o64_0_S256x1024))
    (frameMag (filters w) (extractStridedSlice S256x1024 ![192, 0] (rounded y) slices_S576x1024_o192_0_S256x1024))
    (frameMag (filters w) (extractStridedSlice S256x1024 ![320, 0] (rounded y) slices_S576x1024_o320_0_S256x1024)))
    bitsLt_bf16_f32

/-- Layer 1: a matrix product, the bias and the rectifier. -/
def layer1 (w : FVec F S512x544 .bf16) (b : FVec F S512x1024 .f32) (x : FVec F S544x1024 .bf16) : FVec F S512x1024 .bf16 :=
  truncf .bf16 (maximumf (addf
      (matmul dot_S512x544_S544x1024_S512x1024_1_0_0_1_n_n none (shapeCast S512x544 w shapeCasts_S512x544_S512x544) x
        (constant S512x1024 .f32 0x00000000#32))
      (shapeCast S512x1024 b shapeCasts_S512x1024_S512x1024))
    (broadcast S512x1024 (Scalar.ofBits .f32 0x00000000#32))) bitsLt_bf16_f32

/-- Layer 2: a matrix product, the bias and the rectifier. -/
def layer2 (w : FVec F S128x512 .bf16) (b : FVec F S128x1024 .f32) (x : FVec F S512x1024 .bf16) : FVec F S128x1024 .bf16 :=
  truncf .bf16 (maximumf (addf
      (matmul dot_S128x512_S512x1024_S128x1024_1_0_0_1_n_n none (shapeCast S128x512 w shapeCasts_S128x512_S128x512) x
        (constant S128x1024 .f32 0x00000000#32))
      (shapeCast S128x1024 b shapeCasts_S128x1024_S128x1024))
    (broadcast S128x1024 (Scalar.ofBits .f32 0x00000000#32))) bitsLt_bf16_f32

/-- Layer 3: a matrix product, the bias and the rectifier. -/
def layer3 (w : FVec F S64x128 .bf16) (b : FVec F S64x1024 .f32) (x : FVec F S128x1024 .bf16) : FVec F S64x1024 .bf16 :=
  truncf .bf16 (maximumf (addf
      (matmul dot_S64x128_S128x1024_S64x1024_1_0_0_1_n_n none (shapeCast S64x128 w shapeCasts_S64x128_S64x128) x
        (constant S64x1024 .f32 0x00000000#32))
      (shapeCast S64x1024 b shapeCasts_S64x1024_S64x1024))
    (broadcast S64x1024 (Scalar.ofBits .f32 0x00000000#32))) bitsLt_bf16_f32

/-- Layer 4: a matrix product, the bias and the rectifier. -/
def layer4 (w : FVec F S128x64 .bf16) (b : FVec F S128x1024 .f32) (x : FVec F S64x1024 .bf16) : FVec F S128x1024 .bf16 :=
  truncf .bf16 (maximumf (addf
      (matmul dot_S128x64_S64x1024_S128x1024_1_0_0_1_n_n none (shapeCast S128x64 w shapeCasts_S128x64_S128x64) x
        (constant S128x1024 .f32 0x00000000#32))
      (shapeCast S128x1024 b shapeCasts_S128x1024_S128x1024))
    (broadcast S128x1024 (Scalar.ofBits .f32 0x00000000#32))) bitsLt_bf16_f32

/-- The gates of an LSTM step, before their nonlinearities. -/
def gatesV (w : FVec F S512x256 .bf16) (b : FVec F S512x1024 .f32) (x : FVec F S128x1024 .bf16)
    (h : FVec F S128x1024 .f32) : FVec F S512x1024 .f32 :=
  addf (matmul dot_S512x256_S256x1024_S512x1024_1_0_0_1_n_n none (shapeCast S512x256 w shapeCasts_S512x256_S512x256)
      (concatenate S256x1024 0 [⟨S128x1024, x⟩, ⟨S128x1024, truncf .bf16 h bitsLt_bf16_f32⟩]
        concatenates_S128x1024_S128x1024_S256x1024_d0)
      (constant S512x1024 .f32 0x00000000#32))
    (shapeCast S512x1024 b shapeCasts_S512x1024_S512x1024)

/-- The next cell state, from the gates. -/
def cellV (g : FVec F S512x1024 .f32) (c : FVec F S128x1024 .f32) : FVec F S128x1024 .f32 :=
  addf (mulf (logistic (extractStridedSlice S128x1024 ![128, 0] g slices_S512x1024_o128_0_S128x1024)) c)
    (mulf (logistic (extractStridedSlice S128x1024 ![0, 0] g slices_S512x1024_o0_0_S128x1024))
      (tanh (extractStridedSlice S128x1024 ![256, 0] g slices_S512x1024_o256_0_S128x1024)))

/-- The next hidden state, from the gates and the next cell state. -/
def hiddenV (g : FVec F S512x1024 .f32) (c : FVec F S128x1024 .f32) : FVec F S128x1024 .f32 :=
  mulf (logistic (extractStridedSlice S128x1024 ![384, 0] g slices_S512x1024_o384_0_S128x1024)) (tanh c)

/-- The product so far, times one minus the probability of speech that the hidden state gives. -/
def keepV (w : FVec F S128x1024 .f32) (b : FVec F S1x1024 .f32) (h : FVec F S128x1024 .f32)
    (acc : FVec F S1x1024 .f32) : FVec F S1x1024 .f32 :=
  mulf acc (subf (broadcast S1x1024 (Scalar.ofBits .f32 0x3F800000#32))
    (logistic (addf
      (shapeCast S1x1024 (multiReduction .add [0] S1024 (mulf h (shapeCast S128x1024 w shapeCasts_S128x1024_S128x1024))
        0x00000000#32 reduces_S128x1024_S1024 (.inl rfl) rfl) shapeCasts_S1024_S1x1024)
      (shapeCast S1x1024 b shapeCasts_S1x1024_S1x1024))))

/-- The hidden and cell states after `n` steps on the features `f`. -/
def statesV (w : FVec F S512x256 .bf16) (b : FVec F S512x1024 .f32) (f : ℕ → FVec F S128x1024 .bf16)
    (h c : FVec F S128x1024 .f32) : ℕ → FVec F S128x1024 .f32 × FVec F S128x1024 .f32
  | 0 => (h, c)
  | n + 1 =>
    (hiddenV (gatesV w b (f n) (statesV w b f h c n).1)
        (cellV (gatesV w b (f n) (statesV w b f h c n).1) (statesV w b f h c n).2),
      cellV (gatesV w b (f n) (statesV w b f h c n).1) (statesV w b f h c n).2)

/-- The product of the first `n` factors, from the hidden states `h 1`, …, `h n`. -/
def silenceV (w : FVec F S128x1024 .f32) (b : FVec F S1x1024 .f32) (h : ℕ → FVec F S128x1024 .f32) :
    ℕ → FVec F S1x1024 .f32
  | 0 => broadcast S1x1024 (Scalar.ofBits .f32 0x3F800000#32)
  | n + 1 => keepV w b (h (n + 1)) (silenceV w b h n)

/-! ## The body is these functions -/

variable (x0 : Vec F S4160x1024 .f32) (x1 x2 : Vec F S1024x128 .f32) (x3 x4 : Vec F S272x256 .bf16)
  (x5 : Vec F S512x544 .bf16) (x6 : Vec F S512x1024 .f32) (x7 : Vec F S128x512 .bf16) (x8 : Vec F S128x1024 .f32)
  (x9 : Vec F S64x128 .bf16) (x10 : Vec F S64x1024 .f32) (x11 : Vec F S128x64 .bf16) (x12 : Vec F S128x1024 .f32)
  (x13 : Vec F S512x256 .bf16) (x14 : Vec F S512x1024 .f32) (x15 : Vec F S128x1024 .f32) (x16 : Vec F S1x1024 .f32)

/-- The samples of chunk `i` as the body loads them. -/
def chunkV (i : ℕ) : FVec F S576x1024 .f32 :=
  match i with
  | 0 => View.ld x0 r0_7
  | 1 => View.ld x0 r0_8
  | 2 => View.ld x0 r0_9
  | 3 => View.ld x0 r0_10
  | 4 => View.ld x0 r0_15
  | 5 => View.ld x0 r0_16
  | 6 => View.ld x0 r0_17
  | _ => View.ld x0 r0_18

/-- The features of chunk `i`. -/
def featureV (i : ℕ) : FVec F S128x1024 .bf16 :=
  layer4 (View.ld x11 r0_5) (View.ld x12 r0_12) (layer3 (View.ld x9 r0_4) (View.ld x10 r0_13)
    (layer2 (View.ld x7 r0_3) (View.ld x8 r0_12) (layer1 (View.ld x5 r0_2) (View.ld x6 r0_11)
      (mags (View.ld x4 r0_1) (View.ld x3 r0_1) (chunkV x0 i)))))

/-- The block's states after `n` chunks. -/
def blockStates (n : ℕ) : FVec F S128x1024 .f32 × FVec F S128x1024 .f32 :=
  statesV (View.ld x13 r0_6) (View.ld x14 r0_11) (featureV x0 x3 x4 x5 x6 x7 x8 x9 x10 x11 x12)
    (transpose S128x1024 [1, 0] (View.ld x1 r0_0) transposes_S1024x128_p1_0_S128x1024)
    (transpose S128x1024 [1, 0] (View.ld x2 r0_0) transposes_S1024x128_p1_0_S128x1024) n

/-- The features of the eight chunks, as the body computes them. -/
theorem feature_0 : k0_pay135 x0 x1 x2 x3 x4 x5 x6 x7 x8 x9 x10 x11 x12 x13 x14 x15 x16 = featureV x0 x3 x4 x5 x6 x7 x8 x9 x10 x11 x12 0 := rfl
theorem feature_1 : k0_pay136 x0 x1 x2 x3 x4 x5 x6 x7 x8 x9 x10 x11 x12 x13 x14 x15 x16 = featureV x0 x3 x4 x5 x6 x7 x8 x9 x10 x11 x12 1 := rfl
theorem feature_2 : k0_pay137 x0 x1 x2 x3 x4 x5 x6 x7 x8 x9 x10 x11 x12 x13 x14 x15 x16 = featureV x0 x3 x4 x5 x6 x7 x8 x9 x10 x11 x12 2 := rfl
theorem feature_3 : k0_pay138 x0 x1 x2 x3 x4 x5 x6 x7 x8 x9 x10 x11 x12 x13 x14 x15 x16 = featureV x0 x3 x4 x5 x6 x7 x8 x9 x10 x11 x12 3 := rfl
theorem feature_4 : k0_pay150 x0 x1 x2 x3 x4 x5 x6 x7 x8 x9 x10 x11 x12 x13 x14 x15 x16 = featureV x0 x3 x4 x5 x6 x7 x8 x9 x10 x11 x12 4 := rfl
theorem feature_5 : k0_pay151 x0 x1 x2 x3 x4 x5 x6 x7 x8 x9 x10 x11 x12 x13 x14 x15 x16 = featureV x0 x3 x4 x5 x6 x7 x8 x9 x10 x11 x12 5 := rfl
theorem feature_6 : k0_pay152 x0 x1 x2 x3 x4 x5 x6 x7 x8 x9 x10 x11 x12 x13 x14 x15 x16 = featureV x0 x3 x4 x5 x6 x7 x8 x9 x10 x11 x12 6 := rfl
theorem feature_7 : k0_pay153 x0 x1 x2 x3 x4 x5 x6 x7 x8 x9 x10 x11 x12 x13 x14 x15 x16 = featureV x0 x3 x4 x5 x6 x7 x8 x9 x10 x11 x12 7 := rfl

/-- The states at the start. -/
theorem start_h : k0_pay126 x0 x1 x2 x3 x4 x5 x6 x7 x8 x9 x10 x11 x12 x13 x14 x15 x16 = (blockStates x0 x1 x2 x3 x4 x5 x6 x7 x8 x9 x10 x11 x12 x13 x14 0).1 := rfl
theorem start_c : k0_pay127 x0 x1 x2 x3 x4 x5 x6 x7 x8 x9 x10 x11 x12 x13 x14 x15 x16 = (blockStates x0 x1 x2 x3 x4 x5 x6 x7 x8 x9 x10 x11 x12 x13 x14 0).2 := rfl

/-- The states after each chunk, under the names that the body gives them; of chunks 3 and 6 also the gates, where the body names
    those. -/
theorem c_1 : k0_pay139 x0 x1 x2 x3 x4 x5 x6 x7 x8 x9 x10 x11 x12 x13 x14 x15 x16 = (blockStates x0 x1 x2 x3 x4 x5 x6 x7 x8 x9 x10 x11 x12 x13 x14 1).2 := by
  unfold k0_pay139; rw [start_h, start_c, feature_0]; rfl
theorem h_1 : k0_pay140 x0 x1 x2 x3 x4 x5 x6 x7 x8 x9 x10 x11 x12 x13 x14 x15 x16 = (blockStates x0 x1 x2 x3 x4 x5 x6 x7 x8 x9 x10 x11 x12 x13 x14 1).1 := by
  unfold k0_pay140; rw [start_h, start_c, feature_0]; rfl
theorem c_2 : k0_pay141 x0 x1 x2 x3 x4 x5 x6 x7 x8 x9 x10 x11 x12 x13 x14 x15 x16 = (blockStates x0 x1 x2 x3 x4 x5 x6 x7 x8 x9 x10 x11 x12 x13 x14 2).2 := by
  unfold k0_pay141; rw [h_1, c_1, feature_1]; rfl
theorem h_2 : k0_pay142 x0 x1 x2 x3 x4 x5 x6 x7 x8 x9 x10 x11 x12 x13 x14 x15 x16 = (blockStates x0 x1 x2 x3 x4 x5 x6 x7 x8 x9 x10 x11 x12 x13 x14 2).1 := by
  unfold k0_pay142; rw [h_1, c_1, feature_1]; rfl
theorem g_3 : k0_pay143 x0 x1 x2 x3 x4 x5 x6 x7 x8 x9 x10 x11 x12 x13 x14 x15 x16 = (gatesV (View.ld x13 r0_6) (View.ld x14 r0_11) (featureV x0 x3 x4 x5 x6 x7 x8 x9 x10 x11 x12 2) (blockStates x0 x1 x2 x3 x4 x5 x6 x7 x8 x9 x10 x11 x12 x13 x14 2).1) := by
  unfold k0_pay143; rw [h_2, feature_2]; rfl
theorem i_3 : k0_pay144 x0 x1 x2 x3 x4 x5 x6 x7 x8 x9 x10 x11 x12 x13 x14 x15 x16 = logistic (extractStridedSlice S128x1024 ![0, 0] (gatesV (View.ld x13 r0_6) (View.ld x14 r0_11) (featureV x0 x3 x4 x5 x6 x7 x8 x9 x10 x11 x12 2) (blockStates x0 x1 x2 x3 x4 x5 x6 x7 x8 x9 x10 x11 x12 x13 x14 2).1) slices_S512x1024_o0_0_S128x1024) := by
  unfold k0_pay144; rw [h_2, feature_2]; rfl
theorem f_3 : k0_pay145 x0 x1 x2 x3 x4 x5 x6 x7 x8 x9 x10 x11 x12 x13 x14 x15 x16 = logistic (extractStridedSlice S128x1024 ![128, 0] (gatesV (View.ld x13 r0_6) (View.ld x14 r0_11) (featureV x0 x3 x4 x5 x6 x7 x8 x9 x10 x11 x12 2) (blockStates x0 x1 x2 x3 x4 x5 x6 x7 x8 x9 x10 x11 x12 x13 x14 2).1) slices_S512x1024_o128_0_S128x1024) := by
  unfold k0_pay145; rw [h_2, feature_2]; rfl
theorem c_3 : k0_pay146 x0 x1 x2 x3 x4 x5 x6 x7 x8 x9 x10 x11 x12 x13 x14 x15 x16 = (blockStates x0 x1 x2 x3 x4 x5 x6 x7 x8 x9 x10 x11 x12 x13 x14 3).2 := by
  unfold k0_pay146; rw [c_2, g_3, i_3, f_3]; rfl
theorem h_3 : k0_pay147 x0 x1 x2 x3 x4 x5 x6 x7 x8 x9 x10 x11 x12 x13 x14 x15 x16 = (blockStates x0 x1 x2 x3 x4 x5 x6 x7 x8 x9 x10 x11 x12 x13 x14 3).1 := by
  unfold k0_pay147; rw [c_2, g_3, i_3, f_3]; rfl
theorem c_4 : k0_pay148 x0 x1 x2 x3 x4 x5 x6 x7 x8 x9 x10 x11 x12 x13 x14 x15 x16 = (blockStates x0 x1 x2 x3 x4 x5 x6 x7 x8 x9 x10 x11 x12 x13 x14 4).2 := by
  unfold k0_pay148; rw [h_3, c_3, feature_3]; rfl
theorem h_4 : k0_pay149 x0 x1 x2 x3 x4 x5 x6 x7 x8 x9 x10 x11 x12 x13 x14 x15 x16 = (blockStates x0 x1 x2 x3 x4 x5 x6 x7 x8 x9 x10 x11 x12 x13 x14 4).1 := by
  unfold k0_pay149; rw [h_3, c_3, feature_3]; rfl
theorem c_5 : k0_pay154 x0 x1 x2 x3 x4 x5 x6 x7 x8 x9 x10 x11 x12 x13 x14 x15 x16 = (blockStates x0 x1 x2 x3 x4 x5 x6 x7 x8 x9 x10 x11 x12 x13 x14 5).2 := by
  unfold k0_pay154; rw [h_4, c_4, feature_4]; rfl
theorem i_6 : k0_pay155 x0 x1 x2 x3 x4 x5 x6 x7 x8 x9 x10 x11 x12 x13 x14 x15 x16 = logistic (extractStridedSlice S128x1024 ![0, 0] (gatesV (View.ld x13 r0_6) (View.ld x14 r0_11) (featureV x0 x3 x4 x5 x6 x7 x8 x9 x10 x11 x12 5) (blockStates x0 x1 x2 x3 x4 x5 x6 x7 x8 x9 x10 x11 x12 x13 x14 5).1) slices_S512x1024_o0_0_S128x1024) := by
  unfold k0_pay155; rw [h_4, c_4, feature_4, feature_5]; rfl
theorem f_6 : k0_pay156 x0 x1 x2 x3 x4 x5 x6 x7 x8 x9 x10 x11 x12 x13 x14 x15 x16 = logistic (extractStridedSlice S128x1024 ![128, 0] (gatesV (View.ld x13 r0_6) (View.ld x14 r0_11) (featureV x0 x3 x4 x5 x6 x7 x8 x9 x10 x11 x12 5) (blockStates x0 x1 x2 x3 x4 x5 x6 x7 x8 x9 x10 x11 x12 x13 x14 5).1) slices_S512x1024_o128_0_S128x1024) := by
  unfold k0_pay156; rw [h_4, c_4, feature_4, feature_5]; rfl
theorem t_6 : k0_pay157 x0 x1 x2 x3 x4 x5 x6 x7 x8 x9 x10 x11 x12 x13 x14 x15 x16 = tanh (extractStridedSlice S128x1024 ![256, 0] (gatesV (View.ld x13 r0_6) (View.ld x14 r0_11) (featureV x0 x3 x4 x5 x6 x7 x8 x9 x10 x11 x12 5) (blockStates x0 x1 x2 x3 x4 x5 x6 x7 x8 x9 x10 x11 x12 x13 x14 5).1) slices_S512x1024_o256_0_S128x1024) := by
  unfold k0_pay157; rw [h_4, c_4, feature_4, feature_5]; rfl
theorem o_6 : k0_pay158 x0 x1 x2 x3 x4 x5 x6 x7 x8 x9 x10 x11 x12 x13 x14 x15 x16 = logistic (extractStridedSlice S128x1024 ![384, 0] (gatesV (View.ld x13 r0_6) (View.ld x14 r0_11) (featureV x0 x3 x4 x5 x6 x7 x8 x9 x10 x11 x12 5) (blockStates x0 x1 x2 x3 x4 x5 x6 x7 x8 x9 x10 x11 x12 x13 x14 5).1) slices_S512x1024_o384_0_S128x1024) := by
  unfold k0_pay158; rw [h_4, c_4, feature_4, feature_5]; rfl
theorem c_7 : k0_pay159 x0 x1 x2 x3 x4 x5 x6 x7 x8 x9 x10 x11 x12 x13 x14 x15 x16 = (blockStates x0 x1 x2 x3 x4 x5 x6 x7 x8 x9 x10 x11 x12 x13 x14 7).2 := by
  unfold k0_pay159; rw [c_5, i_6, f_6, t_6, o_6, feature_6]; rfl
theorem h_7 : k0_pay160 x0 x1 x2 x3 x4 x5 x6 x7 x8 x9 x10 x11 x12 x13 x14 x15 x16 = (blockStates x0 x1 x2 x3 x4 x5 x6 x7 x8 x9 x10 x11 x12 x13 x14 7).1 := by
  unfold k0_pay160; rw [c_5, i_6, f_6, t_6, o_6, feature_6]; rfl

/-- The block of the second result: the last hidden states, transposed back. -/
theorem out_h : out0_18 x0 x1 x2 x3 x4 x5 x6 x7 x8 x9 x10 x11 x12 x13 x14 x15 x16
    = View.canon [⟨r0_0, transpose S1024x128 [1, 0] (blockStates x0 x1 x2 x3 x4 x5 x6 x7 x8 x9 x10 x11 x12 x13 x14 8).1 transposes_S128x1024_p1_0_S1024x128⟩] := by
  unfold out0_18; rw [feature_7, c_7, h_7]; rfl

/-- The block of the third result: the last cell states, transposed back. -/
theorem out_c : out0_19 x0 x1 x2 x3 x4 x5 x6 x7 x8 x9 x10 x11 x12 x13 x14 x15 x16
    = View.canon [⟨r0_0, transpose S1024x128 [1, 0] (blockStates x0 x1 x2 x3 x4 x5 x6 x7 x8 x9 x10 x11 x12 x13 x14 8).2 transposes_S128x1024_p1_0_S1024x128⟩] := by
  unfold out0_19; rw [feature_7, c_7, h_7]; rfl

/-- The product of the first `n` factors. -/
def blockSilence (n : ℕ) : FVec F S1x1024 .f32 :=
  silenceV (View.ld x15 r0_12) (View.ld x16 r0_14) (fun n => (blockStates x0 x1 x2 x3 x4 x5 x6 x7 x8 x9 x10 x11 x12 x13 x14 n).1) n

/-- The block of the first result: one minus the product. -/
theorem out_p : out0_17 x0 x1 x2 x3 x4 x5 x6 x7 x8 x9 x10 x11 x12 x13 x14 x15 x16
    = View.canon [⟨r0_14, subf (broadcast S1x1024 (Scalar.ofBits .f32 0x3F800000#32)) (blockSilence x0 x1 x2 x3 x4 x5 x6 x7 x8 x9 x10 x11 x12 x13 x14 x15 x16 8)⟩] := by
  unfold out0_17
  rw [start_h, start_c, feature_0, feature_1, feature_3, feature_4, feature_6, feature_7, c_1, h_1, c_2, g_3, i_3, f_3, c_3, h_3, c_4, h_4,
    c_5, i_6, f_6, t_6, o_6, c_7, h_7]
  rfl

end Cert.Vad

end
-- ==== Proof.Spec.lean ====
/-
  What the model computes, for one recording, in the extended reals: the spectrum of each of its eight chunks, four
  convolutions over the frames of a chunk, one LSTM step per chunk, and the probability that no chunk holds speech.
  Nothing here knows of a program; the kernel's and the reference's results are both shown to be these functions.
-/
module

public import Idealize.ShloMosaic.PureOps.Ideal
public import Idealize.ShloMosaic.Lib.Pointwise

@[expose] public section

noncomputable section

namespace Cert.Vad

open Idealize.ShloMosaic

/-- The model's weights, by their coordinates. -/
structure Net where
  /-- the filters of the spectrum: 129 cosines, then 129 sines, of 256 samples -/
  filt : Fin 258 → Fin 256 → EReal
  w1 : Fin 128 → Fin 129 → Fin 3 → EReal
  b1 : Fin 128 → EReal
  w2 : Fin 64 → Fin 128 → Fin 3 → EReal
  b2 : Fin 64 → EReal
  w3 : Fin 64 → Fin 64 → Fin 3 → EReal
  b3 : Fin 64 → EReal
  w4 : Fin 128 → Fin 64 → Fin 3 → EReal
  b4 : Fin 128 → EReal
  wi : Fin 512 → Fin 128 → EReal
  wh : Fin 512 → Fin 128 → EReal
  bi : Fin 512 → EReal
  bh : Fin 512 → EReal
  wo : Fin 128 → EReal
  bo : EReal

/-- The weights that the argument arrays hold. -/
def netOf (x3 : FVec Ideal ⟨3, ![258, 1, 256]⟩ .f32) (x4 : FVec Ideal ⟨3, ![128, 129, 3]⟩ .f32)
    (x5 : FVec Ideal ⟨1, ![128]⟩ .f32) (x6 : FVec Ideal ⟨3, ![64, 128, 3]⟩ .f32) (x7 : FVec Ideal ⟨1, ![64]⟩ .f32)
    (x8 : FVec Ideal ⟨3, ![64, 64, 3]⟩ .f32) (x9 : FVec Ideal ⟨1, ![64]⟩ .f32)
    (x10 : FVec Ideal ⟨3, ![128, 64, 3]⟩ .f32) (x11 : FVec Ideal ⟨1, ![128]⟩ .f32)
    (x12 x13 : FVec Ideal ⟨2, ![512, 128]⟩ .f32) (x14 x15 : FVec Ideal ⟨1, ![512]⟩ .f32)
    (x16 : FVec Ideal ⟨2, ![1, 128]⟩ .f32) (x17 : FVec Ideal ⟨1, ![1]⟩ .f32) : Net where
  filt f n := x3 (ix3 f 0 n)
  w1 o c d := x4 (ix3 o c d)
  b1 o := x5 (ix1 o)
  w2 o c d := x6 (ix3 o c d)
  b2 o := x7 (ix1 o)
  w3 o c d := x8 (ix3 o c d)
  b3 o := x9 (ix1 o)
  w4 o c d := x10 (ix3 o c d)
  b4 o := x11 (ix1 o)
  wi q k := x12 (ix2 q k)
  wh q k := x13 (ix2 q k)
  bi q := x14 (ix1 q)
  bh q := x15 (ix1 q)
  wo k := x16 (ix2 0 k)
  bo := x17 (ix1 0)

/-- The samples of recording `b`. -/
def recording (x : FVec Ideal ⟨2, ![8192, 4160]⟩ .f32) (b : Fin 8192) (n : ℕ) : EReal :=
  if h : n < 4160 then x (ix2 b ⟨n, h⟩) else 0

/-- Row `b` of a state array. -/
def stateRow (x : FVec Ideal ⟨2, ![8192, 128]⟩ .f32) (b : Fin 8192) (k : Fin 128) : EReal := x (ix2 b k)

/-! ## The spectrum -/

/-- Sample `n` of chunk `i` with 64 samples mirrored in front of it. -/
def mirrored (a : ℕ → EReal) (i n : ℕ) : EReal := if n < 64 then a (512 * i + (64 - n)) else a (512 * i + (n - 64))

/-- Filter `f` on frame `t` of chunk `i`. -/
def dft (N : Net) (a : ℕ → EReal) (i t : ℕ) (f : Fin 258) : EReal :=
  ∑ n : Fin 256, mirrored a i (128 * t + n.val) * N.filt f n

/-- The power of bin `f`: the square of its cosine part and the square of its sine part. -/
def power (N : Net) (a : ℕ → EReal) (i t : ℕ) (f : Fin 129) : EReal :=
  dft N a i t ⟨f.val, by omega⟩ * dft N a i t ⟨f.val, by omega⟩
    + dft N a i t ⟨129 + f.val, by omega⟩ * dft N a i t ⟨129 + f.val, by omega⟩

/-- The magnitude of bin `f`. -/
def magnitude (N : Net) (a : ℕ → EReal) (i t : ℕ) (f : Fin 129) : EReal := Ideal.sqrt (power N a i t f)

/-! ## The convolutions -/

/-- One tap of a convolution on one frame. -/
def tap {O C : ℕ} (w : Fin O → Fin C → Fin 3 → EReal) (o : Fin O) (d : Fin 3) (x : Fin C → EReal) : EReal :=
  ∑ c, w o c d * x c

/-- `L` frames with a frame of zeros before and after them. -/
def framed {C : ℕ} (L : ℕ) (x : ℕ → Fin C → EReal) (p : ℕ) : Fin C → EReal :=
  if 1 ≤ p ∧ p ≤ L then x (p - 1) else fun _ => 0

/-- A convolution with three taps over `L` frames, its first tap at `p`, then the rectifier. -/
def conv {O C : ℕ} (w : Fin O → Fin C → Fin 3 → EReal) (b : Fin O → EReal) (L : ℕ) (x : ℕ → Fin C → EReal) (p : ℕ)
    (o : Fin O) : EReal :=
  max (tap w o 0 (framed L x p) + tap w o 1 (framed L x (p + 1)) + tap w o 2 (framed L x (p + 2)) + b o) 0

/-- The four convolutions on the magnitudes of chunk `i`. -/
def enc1 (N : Net) (a : ℕ → EReal) (i t : ℕ) : Fin 128 → EReal := conv N.w1 N.b1 4 (magnitude N a i) t
/-- The second convolution, with stride 2. -/
def enc2 (N : Net) (a : ℕ → EReal) (i t : ℕ) : Fin 64 → EReal := conv N.w2 N.b2 4 (enc1 N a i) (2 * t)
/-- The third convolution, with stride 2. -/
def enc3 (N : Net) (a : ℕ → EReal) (i t : ℕ) : Fin 64 → EReal := conv N.w3 N.b3 2 (enc2 N a i) (2 * t)
/-- The fourth convolution. -/
def enc4 (N : Net) (a : ℕ → EReal) (i t : ℕ) : Fin 128 → EReal := conv N.w4 N.b4 1 (enc3 N a i) t
/-- The features of chunk `i`. -/
def feature (N : Net) (a : ℕ → EReal) (i : ℕ) : Fin 128 → EReal := enc4 N a i 0

/-! ## The LSTM and the output head -/

/-- Gate `q` before its nonlinearity. -/
def gate (N : Net) (x h : Fin 128 → EReal) (q : Fin 512) : EReal :=
  (∑ k, x k * N.wi q k) + N.bi q + (∑ k, h k * N.wh q k) + N.bh q

/-- The next cell state. -/
def nextC (N : Net) (x h c : Fin 128 → EReal) (k : Fin 128) : EReal :=
  Ideal.logistic (gate N x h ⟨128 + k.val, by omega⟩) * c k
    + Ideal.logistic (gate N x h ⟨k.val, by omega⟩) * Ideal.tanh (gate N x h ⟨256 + k.val, by omega⟩)

/-- The next hidden state. -/
def nextH (N : Net) (x h c : Fin 128 → EReal) (k : Fin 128) : EReal :=
  Ideal.logistic (gate N x h ⟨384 + k.val, by omega⟩) * Ideal.tanh (nextC N x h c k)

/-- The probability of speech, from the hidden state. -/
def prob (N : Net) (h : Fin 128 → EReal) : EReal := Ideal.logistic ((∑ k, h k * N.wo k) + N.bo)

/-- The hidden and the cell state after `n` chunks. -/
def states (N : Net) (a : ℕ → EReal) (h c : Fin 128 → EReal) : ℕ → (Fin 128 → EReal) × (Fin 128 → EReal)
  | 0 => (h, c)
  | n + 1 => (nextH N (feature N a n) (states N a h c n).1 (states N a h c n).2,
      nextC N (feature N a n) (states N a h c n).1 (states N a h c n).2)

/-- The probability that none of the first `n` chunks holds speech. -/
def silence (N : Net) (a : ℕ → EReal) (h c : Fin 128 → EReal) : ℕ → EReal
  | 0 => 1
  | n + 1 => silence N a h c n * (1 - prob N (states N a h c (n + 1)).1)

/-! ## Inputs on which the kernel's shortcuts are exact -/

/-- The samples and filters are real, and the power of every bin is 0 or not less than the kernel's floor. -/
structure Tame (N : Net) (a : ℕ → EReal) : Prop where
  real_a : ∀ n, ∃ r : ℝ, a n = r
  real_filt : ∀ f n, ∃ r : ℝ, N.filt f n = r
  floor : ∀ i t f, i < 8 → t < 4 → power N a i t f = 0 ∨ Ideal.ofBits .f32 0x02081CEA#32 ≤ power N a i t f

end Cert.Vad

end
-- ==== Proof.Shortcuts.lean ====
/-
  The kernel's rearrangements, as equations between sums: filters folded over the mirrored samples, convolutions as one
  product with a banded matrix, a sum over a padded or stacked axis, and a square root as a product with a reciprocal root.
-/
module

public import proofs.«01_k».proof.Proof.Spec
public import Mathlib.Algebra.BigOperators.Fin
public import Mathlib.Algebra.BigOperators.Intervals

@[expose] public section

noncomputable section

namespace Cert.Vad

open Idealize.ShloMosaic

/-- A filter of the first frame, with the weights of the mirrored samples added to those of the samples that they
    mirror. -/
def foldedFilt (N : Net) (g : Fin 258) (k : Fin 256) : EReal :=
  if h : k.val < 192 then
    if h' : 1 ≤ k.val ∧ k.val < 65 then
      N.filt g ⟨64 + k.val, by omega⟩ + N.filt g ⟨64 - k.val, by omega⟩
    else N.filt g ⟨64 + k.val, by omega⟩
  else 0

/-- The weight that a convolution which starts at frame `p` gives to frame `s`: its tap `s - p`, if it has one. -/
def banded {O C : ℕ} (w : Fin O → Fin C → Fin 3 → EReal) (o : Fin O) (c : Fin C) (s p : ℕ) : EReal :=
  if h : p ≤ s ∧ s < p + 3 then w o c ⟨s - p, by omega⟩ else 0

/-! ## Sums over a stacked axis -/

/-- A sum over a stack of `L` pieces of `K` elements, piece by piece. -/
theorem sum_stacked {M : Type} [AddCommMonoid M] (L K : ℕ) (f : Fin (L * K) → M) :
    ∑ k, f k = ∑ s : Fin L, ∑ c : Fin K, f ⟨K * s.val + c.val, by
      have := s.isLt; have := c.isLt; nlinarith [Nat.mul_le_mul_left K (Nat.succ_le_of_lt s.isLt), Nat.mul_comm L K]⟩ := by
  rw [← Equiv.sum_comp finProdFinEquiv f, Fintype.sum_prod_type]
  refine Finset.sum_congr rfl fun s _ => Finset.sum_congr rfl fun c _ => congrArg f (Fin.ext ?_)
  simp [finProdFinEquiv, Nat.add_comm]

/-- A sum whose terms vanish from `A` on. -/
theorem sum_padded (A B : ℕ) (h : A ≤ B) (f : Fin B → EReal) (h0 : ∀ c : Fin B, A ≤ c.val → f c = 0) :
    ∑ c, f c = ∑ c : Fin A, f ⟨c.val, by omega⟩ := by
  obtain ⟨d, rfl⟩ := Nat.exists_eq_add_of_le h
  rw [Fin.sum_univ_add]
  rw [Finset.sum_eq_zero (s := Finset.univ) (f := fun i : Fin d => f (Fin.natAdd A i)) (fun i _ => h0 _ (by simp)), add_zero]
  rfl

/-! ## Convolutions as banded matrices -/

/-- The sum of the frames at place `q`, counted from one: the frame there, or nothing outside. -/
theorem sum_at (L q : ℕ) (g : ℕ → EReal) :
    (∑ s : Fin L, if s.val + 1 = q then g s.val else 0) = if 1 ≤ q ∧ q ≤ L then g (q - 1) else 0 := by
  rw [Fin.sum_univ_eq_sum_range (fun s => if s + 1 = q then g s else 0) L]
  by_cases h : 1 ≤ q ∧ q ≤ L
  · rw [if_pos h, Finset.sum_eq_single (q - 1)]
    · rw [if_pos (by omega)]
    · intro b _ hb; rw [if_neg (by omega)]
    · intro hb; exact absurd (Finset.mem_range.mpr (by omega)) hb
  · rw [if_neg h]
    refine Finset.sum_eq_zero fun s hs => if_neg ?_
    have := Finset.mem_range.mp hs
    omega

/-- A banded weight is the sum of the three taps, each where it applies. -/
theorem banded_mul {O C : ℕ} (w : Fin O → Fin C → Fin 3 → EReal) (o : Fin O) (c : Fin C) (s p : ℕ) (y : EReal) :
    banded w o c (s + 1) p * y
      = (if s + 1 = p then w o c 0 * y else 0) + (if s + 1 = p + 1 then w o c 1 * y else 0)
        + (if s + 1 = p + 2 then w o c 2 * y else 0) := by
  unfold banded
  rcases Nat.lt_or_ge (s + 1) p with h | h
  · rw [dif_neg (by omega), if_neg (by omega), if_neg (by omega), if_neg (by omega)]; simp
  · obtain ⟨d, hd⟩ := Nat.exists_eq_add_of_le h
    by_cases h3 : d < 3
    · rw [dif_pos (by omega)]
      have hw : (⟨s + 1 - p, by omega⟩ : Fin 3) = ⟨d, h3⟩ := Fin.ext (by simp only; omega)
      rw [hw]
      interval_cases d
      · rw [if_pos (by omega), if_neg (by omega), if_neg (by omega)]; simp
      · rw [if_neg (by omega), if_pos (by omega), if_neg (by omega)]; simp
      · rw [if_neg (by omega), if_neg (by omega), if_pos (by omega)]; simp
    · rw [dif_neg (by omega), if_neg (by omega), if_neg (by omega), if_neg (by omega)]; simp

/-- A tap on a framed place, as a sum over the frames. -/
theorem tap_framed {O C : ℕ} (w : Fin O → Fin C → Fin 3 → EReal) (o : Fin O) (d : Fin 3) (L q : ℕ) (x : ℕ → Fin C → EReal) :
    (∑ s : Fin L, if s.val + 1 = q then tap w o d (x s.val) else 0) = tap w o d (framed L x q) := by
  rw [sum_at L q (fun s => tap w o d (x s))]
  unfold framed
  split
  · rfl
  · simp [tap]

/-- The product with the banded matrix is the three taps' sum. -/
theorem banded_sum {O C : ℕ} (w : Fin O → Fin C → Fin 3 → EReal) (o : Fin O) (L p : ℕ) (x : ℕ → Fin C → EReal) :
    (∑ s : Fin L, ∑ c, banded w o c (s.val + 1) p * x s.val c)
      = tap w o 0 (framed L x p) + tap w o 1 (framed L x (p + 1)) + tap w o 2 (framed L x (p + 2)) := by
  rw [← tap_framed, ← tap_framed, ← tap_framed, ← Finset.sum_add_distrib, ← Finset.sum_add_distrib]
  refine Finset.sum_congr rfl fun s _ => ?_
  simp only [banded_mul, Finset.sum_add_distrib]
  refine congrArg₂ (· + ·) (congrArg₂ (· + ·) ?_ ?_) ?_ <;> (split <;> simp [tap])

/-! ## The first frame -/

/-- A sum of reals, in the extended reals. -/
theorem coe_sum_real {ι : Type} [Fintype ι] (f : ι → ℝ) : ((∑ i, f i : ℝ) : EReal) = ∑ i, (f i : EReal) := by
  classical
  induction (Finset.univ : Finset ι) using Finset.induction_on with
  | empty => simp
  | insert i s hi ih => rw [Finset.sum_insert hi, Finset.sum_insert hi, EReal.coe_add, ih]

/-- The folded filter on the samples is the filter on the mirrored samples, in the reals. -/
theorem fold_real (A G : ℕ → ℝ) :
    (∑ k ∈ Finset.range 192, (if 1 ≤ k ∧ k < 65 then G (64 + k) + G (64 - k) else G (64 + k)) * A k)
      = ∑ n ∈ Finset.range 256, (if n < 64 then A (64 - n) else A (n - 64)) * G n := by
  rw [show (256 : ℕ) = 64 + 192 from rfl, Finset.sum_range_add]
  have h1 : ∀ k ∈ Finset.range 192, (if 1 ≤ k ∧ k < 65 then G (64 + k) + G (64 - k) else G (64 + k)) * A k
      = (if 1 ≤ k ∧ k < 65 then G (64 - k) * A k else 0) + A k * G (64 + k) := fun k _ => by
    split <;> ring
  rw [Finset.sum_congr rfl h1, Finset.sum_add_distrib]
  refine congrArg₂ (· + ·) ?_ ?_
  · rw [show (192 : ℕ) = 1 + (64 + 127) from rfl, Finset.sum_range_add, Finset.sum_range_add]
    rw [Finset.sum_range_one, if_neg (by omega), zero_add]
    rw [Finset.sum_eq_zero (s := Finset.range 127) (fun k _ => if_neg (by omega)), add_zero]
    rw [← Finset.sum_range_reflect]
    refine Finset.sum_congr rfl fun k hk => ?_
    have := Finset.mem_range.mp hk
    rw [if_pos (by omega), if_pos (by omega)]
    rw [show 64 - (1 + (64 - 1 - k)) = k by omega, show 1 + (64 - 1 - k) = 64 - k by omega, mul_comm]
  · refine Finset.sum_congr rfl fun k hk => ?_
    rw [if_neg (by omega), show 64 + k - 64 = k by omega]

/-- The folded filter on the samples of chunk `i` is the filter on the chunk's first frame. -/
theorem fold_dft (N : Net) (a : ℕ → EReal) (i : ℕ) (g : Fin 258) (ha : ∀ n, ∃ r : ℝ, a n = r)
    (hf : ∀ f n, ∃ r : ℝ, N.filt f n = r) :
    ∑ k : Fin 256, foldedFilt N g k * a (512 * i + k.val) = dft N a i 0 g := by
  choose A hA using ha
  choose G hG using hf
  let H : ℕ → ℝ := fun n => if h : n < 256 then G g ⟨n, h⟩ else 0
  have hH : ∀ (n : ℕ) (h : n < 256), N.filt g ⟨n, h⟩ = ((H n : ℝ) : EReal) := fun n h => by
    rw [hG]; simp only [H]; rw [dif_pos h]
  rw [sum_padded 192 256 (by omega) _ fun c hc => by unfold foldedFilt; rw [dif_neg (by omega), zero_mul]]
  have hl : ∀ k : Fin 192, foldedFilt N g ⟨k.val, by omega⟩ * a (512 * i + k.val)
      = (((if 1 ≤ k.val ∧ k.val < 65 then H (64 + k.val) + H (64 - k.val) else H (64 + k.val)) * A (512 * i + k.val) : ℝ) : EReal) := by
    intro k
    unfold foldedFilt
    rw [dif_pos k.isLt, hA]
    split
    · rw [hH, hH]; push_cast; rfl
    · rw [hH]; push_cast; rfl
  have hr : ∀ n : Fin 256, mirrored a i (128 * 0 + n.val) * N.filt g n
      = (((if n.val < 64 then A (512 * i + (64 - n.val)) else A (512 * i + (n.val - 64))) * H n.val : ℝ) : EReal) := by
    intro n
    unfold mirrored
    rw [show N.filt g n = _ from hH n.val n.isLt, Nat.mul_zero, Nat.zero_add]
    split <;> (rw [hA]; push_cast; rfl)
  unfold dft
  rw [Finset.sum_congr rfl fun k _ => hl k, Finset.sum_congr rfl fun n _ => hr n, ← coe_sum_real, ← coe_sum_real]
  refine congrArg _ ?_
  rw [Fin.sum_univ_eq_sum_range (fun k => (if 1 ≤ k ∧ k < 65 then H (64 + k) + H (64 - k) else H (64 + k)) * A (512 * i + k)) 192,
    Fin.sum_univ_eq_sum_range (fun n => (if n < 64 then A (512 * i + (64 - n)) else A (512 * i + (n - 64))) * H n) 256]
  exact fold_real (fun n => A (512 * i + n)) H

/-- A later frame sees no mirrored sample. -/
theorem later_dft (N : Net) (a : ℕ → EReal) (i s : ℕ) (g : Fin 258) :
    ∑ k : Fin 256, N.filt g k * a (512 * i + (128 * s + 64 + k.val)) = dft N a i (s + 1) g := by
  unfold dft mirrored
  refine Finset.sum_congr rfl fun k _ => ?_
  rw [if_neg (by omega), mul_comm, show 128 * (s + 1) + k.val - 64 = 128 * s + 64 + k.val by omega]

/-! ## The square root -/

/-- The kernel's square root of a power: the power times its reciprocal root, the power not less than a floor. -/
def flooredRoot (p : EReal) : EReal := p * Ideal.rsqrt (max p (Ideal.ofBits .f32 0x02081CEA#32))

/-- The floor is positive. -/
theorem floor_pos : (0 : EReal) < Ideal.ofBits .f32 0x02081CEA#32 := by
  simp [Ideal.ofBits, Ideal.ieee, -EReal.coe_mul]

/-- On real samples and filters the spectrum is real. -/
theorem dft_real (N : Net) (a : ℕ → EReal) (i t : ℕ) (g : Fin 258) (ha : ∀ n, ∃ r : ℝ, a n = r)
    (hf : ∀ f n, ∃ r : ℝ, N.filt f n = r) : ∃ r : ℝ, dft N a i t g = r := by
  choose A hA using ha
  choose G hG using hf
  refine ⟨∑ n : Fin 256, (if 128 * t + n.val < 64 then A (512 * i + (64 - (128 * t + n.val)))
    else A (512 * i + (128 * t + n.val - 64))) * G g n, ?_⟩
  rw [coe_sum_real]
  unfold dft mirrored
  refine Finset.sum_congr rfl fun n _ => ?_
  split <;> (rw [hA, hG]; push_cast; rfl)

/-- On a power that is 0 or not less than the floor it is the square root. -/
theorem flooredRoot_eq (r : ℝ) (h : (r : EReal) = 0 ∨ Ideal.ofBits .f32 0x02081CEA#32 ≤ (r : EReal)) :
    flooredRoot r = Ideal.sqrt r := by
  unfold flooredRoot
  rcases h with h | h
  · rw [h, zero_mul]
    rw [← EReal.coe_zero, Ideal.sqrt_coe]; simp
  · rw [max_eq_left h]
    have hr : 0 < r := by exact_mod_cast lt_of_lt_of_le floor_pos h
    rw [Ideal.rsqrt_coe, Ideal.sqrt_coe, if_neg (by linarith), if_neg hr.ne', if_neg (by linarith), ← EReal.coe_mul]
    refine congrArg _ ?_
    rw [← div_eq_mul_inv, Real.div_sqrt]

/-- On a tame recording the kernel's root of the power is the magnitude. -/
theorem magnitude_eq (N : Net) (a : ℕ → EReal) (T : Tame N a) (i t : ℕ) (f : Fin 129) (hi : i < 8) (ht : t < 4) :
    flooredRoot (power N a i t f) = magnitude N a i t f := by
  obtain ⟨x, hx⟩ := dft_real N a i t ⟨f.val, by omega⟩ T.real_a T.real_filt
  obtain ⟨y, hy⟩ := dft_real N a i t ⟨129 + f.val, by omega⟩ T.real_a T.real_filt
  have hp : power N a i t f = ((x * x + y * y : ℝ) : EReal) := by
    unfold power; rw [hx, hy]; push_cast; rfl
  have := T.floor i t f hi ht
  unfold magnitude
  rw [hp] at this ⊢
  exact flooredRoot_eq _ this

end Cert.Vad

end
-- ==== Proof.BlockPoint.lean ====
/-
  The functions of a block, read at one element in the extended reals.
-/
module

public import proofs.«01_k».proof.Proof.KernelBlock
public import proofs.«01_k».proof.Proof.Shortcuts
public import Idealize.ShloMosaic.Lib.Pointwise
public import Idealize.ShloMosaic.Lib.Pipeline.ValueKit

@[expose] public section

set_option maxRecDepth 16384

noncomputable section

namespace Cert.Vad

open Idealize.ShloMosaic Idealize.ShloMosaic.TcCoe Idealize.SL.Sem Cert.KernelIdeal Cert.KernelIdeal.Gen

/-- Entry `f` of a frame's magnitudes. -/
theorem frameMag_apply (w : FVec Ideal S272x256 .bf16) (z : FVec Ideal S256x1024 .bf16) (f : Fin 136) (j : Fin 1024) :
    frameMag w z (ix2 f j) = flooredRoot
      ((∑ k : Fin 256, w (ix2 ⟨f.val, by omega⟩ k) * z (ix2 k j)) * (∑ k : Fin 256, w (ix2 ⟨f.val, by omega⟩ k) * z (ix2 k j))
        + (∑ k : Fin 256, w (ix2 ⟨136 + f.val, by omega⟩ k) * z (ix2 k j))
          * (∑ k : Fin 256, w (ix2 ⟨136 + f.val, by omega⟩ k) * z (ix2 k j))) := by
  unfold flooredRoot
  pointwise [frameMag]

/-- The first of the joined frames. -/
theorem joined_first (a b c d : FVec Ideal S136x1024 .f32) (f : Fin 136) (j : Fin 1024) :
    joined a b c d (ix2 ⟨f.val, by omega⟩ j) = a (ix2 f j) := by
  pointwise [joined]

/-- The later three of the joined frames. -/
theorem joined_later (a b c d : FVec Ideal S136x1024 .f32) (s : Fin 3) (f : Fin 136) (j : Fin 1024) :
    joined a b c d (ix2 ⟨136 * (s.val + 1) + f.val, by omega⟩ j)
      = (![b, c, d] : Fin 3 → FVec Ideal S136x1024 .f32) s (ix2 f j) := by
  fin_cases s <;> pointwise [joined] <;> (repeat first | rw [dif_neg (by omega)] | rw [dif_pos (by omega)]) <;>
    (congr 2; apply Fin.ext; simp; try omega)

/-- The first frame of a chunk starts at its first row. -/
theorem mags_first (w0 w : FVec Ideal S272x256 .bf16) (y : FVec Ideal S576x1024 .f32) (f : Fin 136) (j : Fin 1024) :
    mags w0 w y (ix2 ⟨f.val, by omega⟩ j) = flooredRoot
      ((∑ k : Fin 256, w0 (ix2 ⟨f.val, by omega⟩ k) * y (ix2 ⟨k.val, by omega⟩ j))
          * (∑ k : Fin 256, w0 (ix2 ⟨f.val, by omega⟩ k) * y (ix2 ⟨k.val, by omega⟩ j))
        + (∑ k : Fin 256, w0 (ix2 ⟨136 + f.val, by omega⟩ k) * y (ix2 ⟨k.val, by omega⟩ j))
          * (∑ k : Fin 256, w0 (ix2 ⟨136 + f.val, by omega⟩ k) * y (ix2 ⟨k.val, by omega⟩ j))) := by
  show joined _ _ _ _ (ix2 ⟨f.val, _⟩ j) = _
  rw [joined_first, frameMag_apply]
  pointwise [filters, rounded]

/-- A later frame `s` starts at row `128 s - 64`. -/
theorem mags_later (w0 w : FVec Ideal S272x256 .bf16) (y : FVec Ideal S576x1024 .f32) (s : Fin 3) (f : Fin 136) (j : Fin 1024) :
    mags w0 w y (ix2 ⟨136 * (s.val + 1) + f.val, by omega⟩ j) = flooredRoot
      ((∑ k : Fin 256, w (ix2 ⟨f.val, by omega⟩ k) * y (ix2 ⟨128 * s.val + 64 + k.val, by omega⟩ j))
          * (∑ k : Fin 256, w (ix2 ⟨f.val, by omega⟩ k) * y (ix2 ⟨128 * s.val + 64 + k.val, by omega⟩ j))
        + (∑ k : Fin 256, w (ix2 ⟨136 + f.val, by omega⟩ k) * y (ix2 ⟨128 * s.val + 64 + k.val, by omega⟩ j))
          * (∑ k : Fin 256, w (ix2 ⟨136 + f.val, by omega⟩ k) * y (ix2 ⟨128 * s.val + 64 + k.val, by omega⟩ j))) := by
  show joined _ _ _ _ (ix2 ⟨136 * (s.val + 1) + f.val, _⟩ j) = _
  rw [joined_later]
  fin_cases s <;>
    · simp only [Fin.zero_eta, Fin.mk_one, Fin.reduceFinMk, Fin.isValue, Matrix.cons_val]
      rw [frameMag_apply]
      pointwise [filters, rounded]

/-- An entry of layer 1. -/
theorem layer1_apply (w : FVec Ideal S512x544 .bf16) (b : FVec Ideal S512x1024 .f32) (x : FVec Ideal S544x1024 .bf16)
    (o : Fin 512) (j : Fin 1024) :
    layer1 w b x (ix2 o j) = max ((∑ k : Fin 544, w (ix2 o k) * x (ix2 k j)) + b (ix2 o j)) 0 := by
  pointwise [layer1]

/-- An entry of layer 2. -/
theorem layer2_apply (w : FVec Ideal S128x512 .bf16) (b : FVec Ideal S128x1024 .f32) (x : FVec Ideal S512x1024 .bf16)
    (o : Fin 128) (j : Fin 1024) :
    layer2 w b x (ix2 o j) = max ((∑ k : Fin 512, w (ix2 o k) * x (ix2 k j)) + b (ix2 o j)) 0 := by
  pointwise [layer2]

/-- An entry of layer 3. -/
theorem layer3_apply (w : FVec Ideal S64x128 .bf16) (b : FVec Ideal S64x1024 .f32) (x : FVec Ideal S128x1024 .bf16)
    (o : Fin 64) (j : Fin 1024) :
    layer3 w b x (ix2 o j) = max ((∑ k : Fin 128, w (ix2 o k) * x (ix2 k j)) + b (ix2 o j)) 0 := by
  pointwise [layer3]

/-- An entry of layer 4. -/
theorem layer4_apply (w : FVec Ideal S128x64 .bf16) (b : FVec Ideal S128x1024 .f32) (x : FVec Ideal S64x1024 .bf16)
    (o : Fin 128) (j : Fin 1024) :
    layer4 w b x (ix2 o j) = max ((∑ k : Fin 64, w (ix2 o k) * x (ix2 k j)) + b (ix2 o j)) 0 := by
  pointwise [layer4]

/-- A gate before its nonlinearity: the features' share and the hidden state's. -/
theorem gatesV_apply (w : FVec Ideal S512x256 .bf16) (b : FVec Ideal S512x1024 .f32) (x : FVec Ideal S128x1024 .bf16)
    (h : FVec Ideal S128x1024 .f32) (q : Fin 512) (j : Fin 1024) :
    gatesV w b x h (ix2 q j) = (∑ k : Fin 128, w (ix2 q ⟨k.val, by omega⟩) * x (ix2 k j))
      + (∑ k : Fin 128, w (ix2 q ⟨128 + k.val, by omega⟩) * h (ix2 k j)) + b (ix2 q j) := by
  pointwise [gatesV]

/-- An entry of the next cell state. -/
theorem cellV_apply (g : FVec Ideal S512x1024 .f32) (c : FVec Ideal S128x1024 .f32) (k : Fin 128) (j : Fin 1024) :
    cellV g c (ix2 k j) = Ideal.logistic (g (ix2 ⟨128 + k.val, by omega⟩ j)) * c (ix2 k j)
      + Ideal.logistic (g (ix2 ⟨k.val, by omega⟩ j)) * Ideal.tanh (g (ix2 ⟨256 + k.val, by omega⟩ j)) := by
  pointwise [cellV]

/-- An entry of the next hidden state. -/
theorem hiddenV_apply (g : FVec Ideal S512x1024 .f32) (c : FVec Ideal S128x1024 .f32) (k : Fin 128) (j : Fin 1024) :
    hiddenV g c (ix2 k j) = Ideal.logistic (g (ix2 ⟨384 + k.val, by omega⟩ j)) * Ideal.tanh (c (ix2 k j)) := by
  pointwise [hiddenV]

/-- An entry of the next product. -/
theorem keepV_apply (w : FVec Ideal S128x1024 .f32) (b : FVec Ideal S1x1024 .f32) (h : FVec Ideal S128x1024 .f32)
    (acc : FVec Ideal S1x1024 .f32) (j : Fin 1024) :
    keepV w b h acc (ix2 0 j)
      = acc (ix2 0 j) * (1 - Ideal.logistic ((∑ k : Fin 128, h (ix2 k j) * w (ix2 k j)) + b (ix2 0 j))) := by
  pointwise [keepV]

end Cert.Vad

end
-- ==== Proof.BlockNet.lean ====
/-
  One column of a block computes the model on one recording: its magnitudes, the four convolutions, the LSTM states and
  the silence probability are those of `Spec`.
-/
module

public import proofs.«01_k».proof.Proof.BlockPoint

@[expose] public section

set_option maxRecDepth 16384

noncomputable section

namespace Cert.Vad

open Idealize.ShloMosaic Idealize.ShloMosaic.TcCoe Idealize.SL.Sem Cert.KernelIdeal Cert.KernelIdeal.Gen

/-- What column `j` of the blocks holds: a recording `a`, its states `h0` and `c0`, and the weights of `N` in the layout
    that the kernel reads. -/
structure Loaded (N : Net) (a : ℕ → EReal) (h0 c0 : Fin 128 → EReal)
  (x0 : FVec Ideal S4160x1024 .f32) (x1 x2 : FVec Ideal S1024x128 .f32) (x3 x4 : FVec Ideal S272x256 .bf16)
  (x5 : FVec Ideal S512x544 .bf16) (x6 : FVec Ideal S512x1024 .f32) (x7 : FVec Ideal S128x512 .bf16) (x8 : FVec Ideal S128x1024 .f32)
  (x9 : FVec Ideal S64x128 .bf16) (x10 : FVec Ideal S64x1024 .f32) (x11 : FVec Ideal S128x64 .bf16) (x12 : FVec Ideal S128x1024 .f32)
  (x13 : FVec Ideal S512x256 .bf16) (x14 : FVec Ideal S512x1024 .f32) (x15 : FVec Ideal S128x1024 .f32) (x16 : FVec Ideal S1x1024 .f32) (j : Fin 1024) : Prop where
  samples : ∀ n : Fin 4160, x0 (ix2 n j) = a n.val
  hidden : ∀ k : Fin 128, x1 (ix2 j k) = h0 k
  cell : ∀ k : Fin 128, x2 (ix2 j k) = c0 k
  re : ∀ (f : Fin 129) (k : Fin 256), x3 (ix2 ⟨f.val, by omega⟩ k) = N.filt ⟨f.val, by omega⟩ k
  im : ∀ (f : Fin 129) (k : Fin 256), x3 (ix2 ⟨136 + f.val, by omega⟩ k) = N.filt ⟨129 + f.val, by omega⟩ k
  re0 : ∀ (f : Fin 129) (k : Fin 256), x4 (ix2 ⟨f.val, by omega⟩ k) = foldedFilt N ⟨f.val, by omega⟩ k
  im0 : ∀ (f : Fin 129) (k : Fin 256), x4 (ix2 ⟨136 + f.val, by omega⟩ k) = foldedFilt N ⟨129 + f.val, by omega⟩ k
  w1 : ∀ (t s : Fin 4) (o : Fin 128) (k : Fin 136), x5 (ix2 ⟨128 * t.val + o.val, by omega⟩ ⟨136 * s.val + k.val, by omega⟩)
      = if h : k.val < 129 then banded N.w1 o ⟨k.val, h⟩ (s.val + 1) t.val else 0
  b1 : ∀ (t : Fin 4) (o : Fin 128), x6 (ix2 ⟨128 * t.val + o.val, by omega⟩ j) = N.b1 o
  w2 : ∀ (t : Fin 2) (s : Fin 4) (o : Fin 64) (k : Fin 128), x7 (ix2 ⟨64 * t.val + o.val, by omega⟩ ⟨128 * s.val + k.val, by omega⟩)
      = banded N.w2 o k (s.val + 1) (2 * t.val)
  b2 : ∀ (t : Fin 2) (o : Fin 64), x8 (ix2 ⟨64 * t.val + o.val, by omega⟩ j) = N.b2 o
  w3 : ∀ (s : Fin 2) (o : Fin 64) (k : Fin 64), x9 (ix2 o ⟨64 * s.val + k.val, by omega⟩) = banded N.w3 o k (s.val + 1) 0
  b3 : ∀ o : Fin 64, x10 (ix2 o j) = N.b3 o
  w4 : ∀ (o : Fin 128) (k : Fin 64), x11 (ix2 o k) = N.w4 o k 1
  b4 : ∀ o : Fin 128, x12 (ix2 o j) = N.b4 o
  wi : ∀ (q : Fin 512) (k : Fin 128), x13 (ix2 q ⟨k.val, by omega⟩) = N.wi q k
  wh : ∀ (q : Fin 512) (k : Fin 128), x13 (ix2 q ⟨128 + k.val, by omega⟩) = N.wh q k
  bias : ∀ q : Fin 512, x14 (ix2 q j) = N.bi q + N.bh q
  wo : ∀ k : Fin 128, x15 (ix2 k j) = N.wo k
  bo : x16 (ix2 0 j) = N.bo

variable {N : Net} {a : ℕ → EReal} {h0 c0 : Fin 128 → EReal} {j : Fin 1024}
variable {x0 : FVec Ideal S4160x1024 .f32} {x1 x2 : FVec Ideal S1024x128 .f32} {x3 x4 : FVec Ideal S272x256 .bf16}
  {x5 : FVec Ideal S512x544 .bf16} {x6 : FVec Ideal S512x1024 .f32} {x7 : FVec Ideal S128x512 .bf16} {x8 : FVec Ideal S128x1024 .f32}
  {x9 : FVec Ideal S64x128 .bf16} {x10 : FVec Ideal S64x1024 .f32} {x11 : FVec Ideal S128x64 .bf16} {x12 : FVec Ideal S128x1024 .f32}
  {x13 : FVec Ideal S512x256 .bf16} {x14 : FVec Ideal S512x1024 .f32} {x15 : FVec Ideal S128x1024 .f32} {x16 : FVec Ideal S1x1024 .f32}

/-- Chunk `i` is the samples from `512 i` on. -/
theorem chunk_apply (x0 : FVec Ideal S4160x1024 .f32) (i : Fin 8) (n : Fin 576) (j : Fin 1024) :
    chunkV x0 i.val (ix2 n j) = x0 (ix2 ⟨512 * i.val + n.val, by omega⟩ j) := by
  fin_cases i <;> pointwise [chunkV]

/-! ## Whole arrays loaded -/

/-- The filters come whole. So do, below, the weights and biases of the layers, the LSTM and the head. -/
theorem ld3 (x : Vec Ideal S272x256 .bf16) : View.ld x r0_1 = x := View.ld_unit_zero (by funext a; fin_cases a <;> rfl) _ x
theorem ld5 (x : Vec Ideal S512x544 .bf16) : View.ld x r0_2 = x := View.ld_unit_zero (by funext a; fin_cases a <;> rfl) _ x
theorem ld6 (x : Vec Ideal S512x1024 .f32) : View.ld x r0_11 = x := View.ld_unit_zero (by funext a; fin_cases a <;> rfl) _ x
theorem ld7 (x : Vec Ideal S128x512 .bf16) : View.ld x r0_3 = x := View.ld_unit_zero (by funext a; fin_cases a <;> rfl) _ x
theorem ld8 (x : Vec Ideal S128x1024 .f32) : View.ld x r0_12 = x := View.ld_unit_zero (by funext a; fin_cases a <;> rfl) _ x
theorem ld9 (x : Vec Ideal S64x128 .bf16) : View.ld x r0_4 = x := View.ld_unit_zero (by funext a; fin_cases a <;> rfl) _ x
theorem ld10 (x : Vec Ideal S64x1024 .f32) : View.ld x r0_13 = x := View.ld_unit_zero (by funext a; fin_cases a <;> rfl) _ x
theorem ld11 (x : Vec Ideal S128x64 .bf16) : View.ld x r0_5 = x := View.ld_unit_zero (by funext a; fin_cases a <;> rfl) _ x
theorem ld13 (x : Vec Ideal S512x256 .bf16) : View.ld x r0_6 = x := View.ld_unit_zero (by funext a; fin_cases a <;> rfl) _ x
theorem ld16 (x : Vec Ideal S1x1024 .f32) : View.ld x r0_14 = x := View.ld_unit_zero (by funext a; fin_cases a <;> rfl) _ x

variable (T : Tame N a) (B : Loaded N a h0 c0 x0 x1 x2 x3 x4 x5 x6 x7 x8 x9 x10 x11 x12 x13 x14 x15 x16 j)
include T B

/-- The magnitudes of frame `t` of chunk `i`. -/
theorem mags_eq (i : Fin 8) (t : Fin 4) (f : Fin 129) :
    mags (F := Ideal) x4 x3 (chunkV (F := Ideal) x0 i.val) (ix2 ⟨136 * t.val + f.val, by omega⟩ j) = magnitude N a i.val t.val f := by
  rw [← magnitude_eq N a T i.val t.val f i.isLt t.isLt]
  unfold power
  rcases Fin.eq_zero_or_eq_succ t with rfl | ⟨s, rfl⟩
  · have h := mags_first x4 x3 (chunkV (F := Ideal) x0 i.val) ⟨f.val, by omega⟩ j
    simp only [chunk_apply, B.samples, B.re0, B.im0, fold_dft N a _ _ T.real_a T.real_filt] at h
    refine Eq.trans (congrArg _ (congrArg₂ ix2 (Fin.ext ?_) rfl)) h
    simp
  · have h := mags_later x4 x3 (chunkV (F := Ideal) x0 i.val) s ⟨f.val, by omega⟩ j
    simp only [chunk_apply, B.samples, B.re, B.im, later_dft N a] at h
    exact h

/-- The first convolution, row `128 t + o`. -/
theorem layer1_eq (i : Fin 8) (t : Fin 4) (o : Fin 128) :
    layer1 (F := Ideal) x5 x6 (mags (F := Ideal) x4 x3 (chunkV (F := Ideal) x0 i.val))
      (ix2 ⟨128 * t.val + o.val, by omega⟩ j) = enc1 N a i.val t.val o := by
  rw [layer1_apply, B.b1]
  unfold enc1 conv
  rw [← banded_sum N.w1 o 4 t.val (magnitude N a i.val)]
  refine congrArg (fun z => max (z + N.b1 o) 0) ?_
  rw [sum_stacked 4 136]
  refine Finset.sum_congr rfl fun s _ => ?_
  rw [sum_padded 129 136 (by omega) _ fun c hc => ?_]
  · refine Finset.sum_congr rfl fun c _ => ?_
    refine congrArg₂ (· * ·) ?_ (mags_eq T B i s c)
    exact (B.w1 t s o ⟨c.val, by omega⟩).trans (dif_pos c.isLt)
  · rw [B.w1 t s o c, dif_neg (by omega), zero_mul]

/-- The second convolution, row `64 t + o`. -/
theorem layer2_eq (i : Fin 8) (t : Fin 2) (o : Fin 64) :
    layer2 (F := Ideal) x7 x8 (layer1 x5 x6
      (mags (F := Ideal) x4 x3 (chunkV (F := Ideal) x0 i.val)))
      (ix2 ⟨64 * t.val + o.val, by omega⟩ j) = enc2 N a i.val t.val o := by
  rw [layer2_apply, B.b2]
  unfold enc2 conv
  rw [← banded_sum N.w2 o 4 (2 * t.val) (enc1 N a i.val)]
  refine congrArg (fun z => max (z + N.b2 o) 0) ?_
  rw [sum_stacked 4 128]
  exact Finset.sum_congr rfl fun s _ => Finset.sum_congr rfl fun c _ =>
    congrArg₂ (· * ·) (B.w2 t s o c) (layer1_eq T B i s c)

/-- The third convolution. -/
theorem layer3_eq (i : Fin 8) (o : Fin 64) :
    layer3 (F := Ideal) x9 x10 (layer2 x7 x8
      (layer1 x5 x6 (mags (F := Ideal) x4 x3 (chunkV (F := Ideal) x0 i.val))))
      (ix2 o j) = enc3 N a i.val 0 o := by
  rw [layer3_apply, B.b3]
  unfold enc3 conv
  rw [← banded_sum N.w3 o 2 (2 * 0) (enc2 N a i.val)]
  refine congrArg (fun z => max (z + N.b3 o) 0) ?_
  rw [sum_stacked 2 64]
  exact Finset.sum_congr rfl fun s _ => Finset.sum_congr rfl fun c _ =>
    congrArg₂ (· * ·) (B.w3 s o c) (layer2_eq T B i s c)

/-- The features of chunk `i`. -/
theorem feature_eq (i : Fin 8) (o : Fin 128) : featureV (F := Ideal) x0 x3 x4 x5 x6 x7 x8 x9 x10 x11 x12 i.val (ix2 o j) = feature N a i.val o := by
  unfold featureV
  rw [ld3, ld3, ld5, ld6, ld7, ld8, ld9, ld10, ld11, ld8, layer4_apply, B.b4]
  unfold feature enc4 conv
  rw [← banded_sum N.w4 o 1 0 (enc3 N a i.val)]
  refine congrArg (fun z => max (z + N.b4 o) 0) ?_
  rw [Fin.sum_univ_one]
  exact Finset.sum_congr rfl fun c _ => congrArg₂ (· * ·) (B.w4 o c) (layer3_eq T B i c)

/-- The gates of step `i`. -/
theorem gates_eq (i : Fin 8) (h : FVec Ideal S128x1024 .f32) (g : Fin 128 → EReal) (hg : ∀ k, h (ix2 k j) = g k) (q : Fin 512) :
    gatesV (F := Ideal) x13 x14 (featureV (F := Ideal) x0 x3 x4 x5 x6 x7 x8 x9 x10 x11 x12 i.val) h (ix2 q j) = gate N (feature N a i.val) g q := by
  rw [gatesV_apply]
  simp only [B.wi, B.wh, B.bias, hg, feature_eq T B]
  unfold gate
  rw [Finset.sum_congr rfl fun k _ => mul_comm (N.wi q k) _, Finset.sum_congr rfl fun k _ => mul_comm (N.wh q k) _]
  abel

/-- The states after `n` chunks. -/
theorem states_eq (n : ℕ) (hn : n ≤ 8) (k : Fin 128) :
    (blockStates (F := Ideal) x0 x1 x2 x3 x4 x5 x6 x7 x8 x9 x10 x11 x12 x13 x14 n).1 (ix2 k j) = (states N a h0 c0 n).1 k
      ∧ (blockStates (F := Ideal) x0 x1 x2 x3 x4 x5 x6 x7 x8 x9 x10 x11 x12 x13 x14 n).2 (ix2 k j) = (states N a h0 c0 n).2 k := by
  unfold blockStates
  rw [ld13, ld6]
  induction n generalizing k with
  | zero =>
    refine ⟨?_, ?_⟩
    · unfold statesV states
      dsimp only
      rw [← B.hidden]
      pointwise
    · unfold statesV states
      dsimp only
      rw [← B.cell]
      pointwise
  | succ n ih =>
    have hg := gates_eq T B ⟨n, by omega⟩ _ _ (fun k => (ih (by omega) k).1)
    have hc : ∀ k, (statesV (F := Ideal) x13 x14 _ _ _ (n + 1)).2 (ix2 k j) = (states N a h0 c0 (n + 1)).2 k := fun k => by
      show cellV (F := Ideal) _ _ (ix2 k j) = nextC N _ _ _ k
      rw [cellV_apply]
      unfold nextC
      rw [← hg, ← hg, ← hg, ← (ih (by omega) k).2]
    refine ⟨?_, hc k⟩
    show hiddenV (F := Ideal) _ _ (ix2 k j) = nextH N _ _ _ k
    rw [hiddenV_apply]
    unfold nextH
    rw [← hg]
    exact congrArg (fun z => _ * Ideal.tanh z) (hc k)

/-- The silence probability after `n` chunks. -/
theorem silence_eq (n : ℕ) (hn : n ≤ 8) :
    blockSilence (F := Ideal) x0 x1 x2 x3 x4 x5 x6 x7 x8 x9 x10 x11 x12 x13 x14 x15 x16 n (ix2 0 j) = silence N a h0 c0 n := by
  unfold blockSilence
  rw [ld8, ld16]
  induction n with
  | zero => unfold silenceV silence; pointwise
  | succ n ih =>
    show keepV (F := Ideal) _ _ _ _ (ix2 0 j) = silence N a h0 c0 n * (1 - prob N (states N a h0 c0 (n + 1)).1)
    rw [keepV_apply, ih (by omega), B.bo]
    unfold prob
    simp only [(states_eq T B (n + 1) hn _).1, B.wo]

end Cert.Vad

end
-- ==== Proof.ScatterBox.lean ====
/-
  Writing a rectangle into a matrix: `x.at[r : r + A, c : c + B].set(u)` and `.add(u)` as the host program prints
  them, a scatter with one start index and the whole update as its window, read at an element.
-/
module

public import proofs.«01_k».proof.Proof.Gen.KernelIdeal
public import Idealize.ShloMosaic.Lib.Pointwise
public import Idealize.ShloMosaic.Lib.Routing.OpsPair

@[expose] public section

namespace Cert.Vad

open Idealize.ShloMosaic

/-- A fold that changes its value only at the elements with `p`, over a list without them, changes nothing. -/
theorem foldl_none {α β : Type} (p : β → Prop) [DecidablePred p] (g : α → β → α) (L : List β)
    (h : ∀ n ∈ L, ¬ p n) (a : α) : L.foldl (fun a n => if p n then g a n else a) a = a := by
  induction L generalizing a with
  | nil => rfl
  | cons b L ih =>
    rw [List.foldl_cons, if_neg (h b (by simp))]
    exact ih (fun n hn => h n (by simp [hn])) a

/-- A fold that changes its value only at the elements with `p`, over a list that holds exactly one of them, once,
    changes it once. -/
theorem foldl_one {α β : Type} (p : β → Prop) [DecidablePred p] (g : α → β → α) (L : List β) (hL : L.Nodup)
    (n₀ : β) (hn : n₀ ∈ L) (h : ∀ n, p n ↔ n = n₀) (a : α) :
    L.foldl (fun a n => if p n then g a n else a) a = g a n₀ := by
  induction L generalizing a with
  | nil => exact absurd hn (by simp)
  | cons b L ih =>
    rw [List.nodup_cons] at hL
    rw [List.foldl_cons]
    rcases List.mem_cons.1 hn with rfl | hm
    · rw [if_pos ((h _).2 rfl)]
      exact foldl_none p g L (fun n hn' hp => hL.1 ((h n).1 hp ▸ hn')) _
    · rw [if_neg fun hp => hL.1 ((h b).1 hp ▸ hm)]
      exact ih hL.2 hm a

/-- A scatter whose update `(a, b)` lands at `(r₀ + a, c₀ + b)`, read at an element: inside the rectangle the body
    of the old element and the update's, outside it the old element. -/
theorem scatter_box {α : Type} {R C A B w : Nat} {si : Shape} (d : ScatterDims ⟨2, ![R, C]⟩ si ⟨2, ![A, B]⟩)
    (f : α → α → α) (x : (⟨2, ![R, C]⟩ : Shape).Idx → α) (idx : IVec si w) (u : (⟨2, ![A, B]⟩ : Shape).Idx → α)
    (r₀ c₀ : Nat)
    (hd : ∀ (a : Fin A) (b : Fin B) (r : Fin R) (c : Fin C),
      d.resultIdx? (ix2 a b) idx = some (ix2 r c) ↔ r₀ + a.val = r.val ∧ c₀ + b.val = c.val)
    (r : Fin R) (c : Fin C) :
    Host.scatter d f x idx u (ix2 r c)
      = if h : (r₀ ≤ r.val ∧ r.val < r₀ + A) ∧ (c₀ ≤ c.val ∧ c.val < c₀ + B) then
          f (x (ix2 r c)) (u (ix2 ⟨r.val - r₀, by omega⟩ ⟨c.val - c₀, by omega⟩))
        else x (ix2 r c) := by
  rw [Routing.scatter_at]
  split
  · next h =>
    have := foldl_one (fun n => d.resultIdx? ((⟨2, ![A, B]⟩ : Shape).rowMajor.symm n) idx = some (ix2 r c))
      (fun a n => f a (u ((⟨2, ![A, B]⟩ : Shape).rowMajor.symm n))) (List.finRange _) (List.nodup_finRange _)
      ((⟨2, ![A, B]⟩ : Shape).rowMajor (ix2 ⟨r.val - r₀, by omega⟩ ⟨c.val - c₀, by omega⟩)) (List.mem_finRange _)
      (fun n => by
        rw [← Equiv.symm_apply_eq]
        generalize (⟨2, ![A, B]⟩ : Shape).rowMajor.symm n = k
        obtain ⟨a, b, rfl⟩ : ∃ (a : Fin A) (b : Fin B), k = ix2 a b := ⟨k 0, k 1, eq_ix2 k⟩
        rw [hd, ix2_inj, Fin.ext_iff, Fin.ext_iff]
        simp only
        omega) (x (ix2 r c))
    rw [Equiv.symm_apply_apply] at this
    exact this
  · next h =>
    refine foldl_none (fun n => d.resultIdx? ((⟨2, ![A, B]⟩ : Shape).rowMajor.symm n) idx = some (ix2 r c))
      (fun a n => f a (u ((⟨2, ![A, B]⟩ : Shape).rowMajor.symm n))) (List.finRange _) (fun n _ => ?_) _
    generalize (⟨2, ![A, B]⟩ : Shape).rowMajor.symm n = k
    obtain ⟨a, b, rfl⟩ : ∃ (a : Fin A) (b : Fin B), k = ix2 a b := ⟨k 0, k 1, eq_ix2 k⟩
    rw [hd]
    have := a.isLt
    have := b.isLt
    omega

/-- Where an update lands, from where its window starts and which place of the window it is. -/
theorem lands_of {R C A B w : Nat} {si : Shape} (d : ScatterDims ⟨2, ![R, C]⟩ si ⟨2, ![A, B]⟩) (idx : IVec si w)
    (r₀ c₀ : Nat) (a : Fin A) (b : Fin B)
    (e0 : d.start (ix2 a b) idx 0 = r₀) (e1 : d.start (ix2 a b) idx 1 = c₀)
    (w0 : d.window (ix2 a b) 0 = a.val) (w1 : d.window (ix2 a b) 1 = b.val) (r : Fin R) (c : Fin C) :
    d.resultIdx? (ix2 a b) idx = some (ix2 r c) ↔ r₀ + a.val = r.val ∧ c₀ + b.val = c.val := by
  rw [Routing.resultIdx?_eq_some]
  constructor
  · intro h
    have h0 : d.start (ix2 a b) idx 0 + (d.window (ix2 a b) 0 : Int) = (r.val : Int) := h 0
    have h1 : d.start (ix2 a b) idx 1 + (d.window (ix2 a b) 1 : Int) = (c.val : Int) := h 1
    rw [e0, w0] at h0
    rw [e1, w1] at h1
    omega
  · intro h q
    match q with
    | ⟨0, _⟩ =>
      change d.start (ix2 a b) idx 0 + (d.window (ix2 a b) 0 : Int) = (r.val : Int)
      rw [e0, w0]; omega
    | ⟨1, _⟩ =>
      change d.start (ix2 a b) idx 1 + (d.window (ix2 a b) 1 : Int) = (c.val : Int)
      rw [e1, w1]; omega

open Cert.KernelIdeal Cert.KernelIdeal.Gen

/-- `x.at[r₀ : r₀ + 64].add(u)` on 192 rows: inside the band the body of old and new, outside it the old. -/
theorem fold_rows {α : Type} (f : α → α → α) (x : S192x258.Idx → α) (idx : IVec S1 32) (u : S64x258.Idx → α)
    (r₀ : Nat) (h0 : (idx (ix1 0)).toInt = r₀) (r : Fin 192) (c : Fin 258) :
    Host.scatter scatter_S192x258_S1_S64x258_01_n_0_0 f x idx u (ix2 r c)
      = if h : (r₀ ≤ r.val ∧ r.val < r₀ + 64) ∧ (0 ≤ c.val ∧ c.val < 0 + 258) then
          f (x (ix2 r c)) (u (ix2 ⟨r.val - r₀, by omega⟩ ⟨c.val - 0, by omega⟩))
        else x (ix2 r c) :=
  scatter_box _ f x idx u r₀ 0 (fun a b => lands_of _ idx r₀ 0 a b
    (by rw [← h0]; refine congrArg (fun k => (idx k).toInt) ?_; funext q; fin_cases q; rfl) rfl rfl rfl) r c

/-- `x.at[r₀ : r₀ + 129].set(u)` on 272 whole rows. -/
theorem set_rows {α : Type} (f : α → α → α) (x : S272x256.Idx → α) (idx : IVec S1 32) (u : S129x256.Idx → α)
    (r₀ : Nat) (h0 : (idx (ix1 0)).toInt = r₀) (r : Fin 272) (c : Fin 256) :
    Host.scatter scatter_S272x256_S1_S129x256_01_n_0_0 f x idx u (ix2 r c)
      = if h : (r₀ ≤ r.val ∧ r.val < r₀ + 129) ∧ (0 ≤ c.val ∧ c.val < 0 + 256) then
          f (x (ix2 r c)) (u (ix2 ⟨r.val - r₀, by omega⟩ ⟨c.val - 0, by omega⟩))
        else x (ix2 r c) :=
  scatter_box _ f x idx u r₀ 0 (fun a b => lands_of _ idx r₀ 0 a b
    (by rw [← h0]; refine congrArg (fun k => (idx k).toInt) ?_; funext q; fin_cases q; rfl) rfl rfl rfl) r c

/-- `x.at[r₀ : r₀ + 129, c₀ : c₀ + 192].set(u)` on the folded bank. -/
theorem set_bank {α : Type} (f : α → α → α) (x : S272x256.Idx → α) (idx : IVec S2 32) (u : S129x192.Idx → α)
    (r₀ c₀ : Nat) (h0 : (idx (ix1 0)).toInt = r₀) (h1 : (idx (ix1 1)).toInt = c₀) (r : Fin 272) (c : Fin 256) :
    Host.scatter scatter_S272x256_S2_S129x192_01_n_01_0 f x idx u (ix2 r c)
      = if h : (r₀ ≤ r.val ∧ r.val < r₀ + 129) ∧ (c₀ ≤ c.val ∧ c.val < c₀ + 192) then
          f (x (ix2 r c)) (u (ix2 ⟨r.val - r₀, by omega⟩ ⟨c.val - c₀, by omega⟩))
        else x (ix2 r c) :=
  scatter_box _ f x idx u r₀ c₀ (fun a b => lands_of _ idx r₀ c₀ a b
    (by rw [← h0]; refine congrArg (fun k => (idx k).toInt) ?_; funext q; fin_cases q; rfl)
    (by rw [← h1]; refine congrArg (fun k => (idx k).toInt) ?_; funext q; fin_cases q; rfl) rfl rfl) r c

/-- `x.at[r₀ : r₀ + 128, c₀ : c₀ + 129].set(u)` on the banded matrix of the first convolution. -/
theorem set_band {α : Type} (f : α → α → α) (x : S512x544.Idx → α) (idx : IVec S2 32) (u : S128x129.Idx → α)
    (r₀ c₀ : Nat) (h0 : (idx (ix1 0)).toInt = r₀) (h1 : (idx (ix1 1)).toInt = c₀) (r : Fin 512) (c : Fin 544) :
    Host.scatter scatter_S512x544_S2_S128x129_01_n_01_0 f x idx u (ix2 r c)
      = if h : (r₀ ≤ r.val ∧ r.val < r₀ + 128) ∧ (c₀ ≤ c.val ∧ c.val < c₀ + 129) then
          f (x (ix2 r c)) (u (ix2 ⟨r.val - r₀, by omega⟩ ⟨c.val - c₀, by omega⟩))
        else x (ix2 r c) :=
  scatter_box _ f x idx u r₀ c₀ (fun a b => lands_of _ idx r₀ c₀ a b
    (by rw [← h0]; refine congrArg (fun k => (idx k).toInt) ?_; funext q; fin_cases q; rfl)
    (by rw [← h1]; refine congrArg (fun k => (idx k).toInt) ?_; funext q; fin_cases q; rfl) rfl rfl) r c

end Cert.Vad
-- ==== Proof.HostVals.lean ====
/-
  The arrays that the host code before the kernel builds, read at an element: the transposed samples, the two filter
  banks, the banded matrices of the convolutions, the joined LSTM matrix and the broadcast biases.
-/
module

public import proofs.«01_k».proof.Proof.ScatterBox
public import proofs.«01_k».proof.Proof.Shortcuts
public import proofs.«01_k».proof.Proof.Gen.KernelIdeal.Frame
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Vad

open Idealize.ShloMosaic Idealize.ShloMosaic.TcCoe Idealize.SL.Sem Cert.KernelIdeal Cert.KernelIdeal.Gen

variable (m : (ℓ : Loc nD τ sig) → Buf (Elt Ideal) ℓ) (c : Dev nD)

/-- The weights in the kernel's argument arrays. -/
def netK : Net :=
  netOf (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))

/-- The samples, transposed. -/
theorem samples_apply (n : Fin 4160) (b : Fin 8192) :
    V m c main_v0 (ix2 n b) = recording (m ((c : Thread nD τ).loc main_arg0)) b n.val := by
  unfold V; after_reads_at
  rw [recording, dif_pos n.isLt]

/-- The plain bank: the cosines in the first rows, the sines from row 136. -/
theorem bank_re (f : Fin 129) (k : Fin 256) :
    V m c main_v17 (ix2 ⟨f.val, by omega⟩ k) = (netK m c).filt ⟨f.val, by omega⟩ k := by
  unfold V; after_reads_at
  rw [set_rows (r₀ := 136) (h0 := rfl), dif_neg (by simp only; omega), set_rows (r₀ := 0) (h0 := rfl), dif_pos (by simp only; omega)]
  pointwise
  rfl

/-- The sine filters, from row 136 on. -/
theorem bank_im (f : Fin 129) (k : Fin 256) :
    V m c main_v17 (ix2 ⟨136 + f.val, by omega⟩ k) = (netK m c).filt ⟨129 + f.val, by omega⟩ k := by
  unfold V; after_reads_at
  rw [set_rows (r₀ := 136) (h0 := rfl), dif_pos (by simp only; omega)]
  pointwise
  show _ = m _ _
  congr 2 <;> (apply Fin.ext; simp)

/-- The filters, one column each, with the first 64 weights added in reverse order to rows 1 to 64 of the rest. -/
theorem fold_apply (g : Fin 258) (k : Fin 192) :
    V m c main_v7 (ix2 k g) = foldedFilt (netK m c) g ⟨k.val, by omega⟩ := by
  unfold V; after_reads_at
  rw [fold_rows (r₀ := 1) (h0 := rfl)]
  unfold foldedFilt
  rw [dif_pos k.isLt]
  by_cases h : 1 ≤ k.val ∧ k.val < 65
  · rw [dif_pos (by omega), dif_pos h]
    pointwise
    refine congrArg₂ (· + ·) rfl ?_
    show m _ _ = m _ _
    refine congrArg _ (congrArg₂ (fun a b => ix3 a 0 b) ?_ ?_) <;> (apply Fin.ext; simp; try omega)
  · rw [dif_neg (by omega), dif_neg h]
    pointwise
    rfl

/-- The folded bank of the first frame. -/
theorem folded_re (f : Fin 129) (k : Fin 256) :
    V m c main_v31 (ix2 ⟨f.val, by omega⟩ k) = foldedFilt (netK m c) ⟨f.val, by omega⟩ k := by
  by_cases h : k.val < 192
  · rw [← fold_apply m c ⟨f.val, by omega⟩ ⟨k.val, h⟩]
    unfold V; after_reads_at
    rw [set_bank (r₀ := 136) (c₀ := 0), dif_neg (by simp only; omega), set_bank (r₀ := 0) (c₀ := 0), dif_pos (by simp only; omega)]
    · pointwise
    all_goals (after_reads_at; try rfl)
  · unfold V; after_reads_at
    rw [set_bank (r₀ := 136) (c₀ := 0), dif_neg (by simp only; omega), set_bank (r₀ := 0) (c₀ := 0), dif_neg (by simp only; omega)]
    · unfold foldedFilt
      rw [dif_neg h]
      pointwise
    all_goals (after_reads_at; try rfl)

/-- The folded sine filters, from row 136 on. -/
theorem folded_im (f : Fin 129) (k : Fin 256) :
    V m c main_v31 (ix2 ⟨136 + f.val, by omega⟩ k) = foldedFilt (netK m c) ⟨129 + f.val, by omega⟩ k := by
  by_cases h : k.val < 192
  · rw [← fold_apply m c ⟨129 + f.val, by omega⟩ ⟨k.val, h⟩]
    unfold V; after_reads_at
    rw [set_bank (r₀ := 136) (c₀ := 0), dif_pos (by simp only; omega)]
    · pointwise
    all_goals (after_reads_at; try rfl)
  · unfold V; after_reads_at
    rw [set_bank (r₀ := 136) (c₀ := 0), dif_neg (by simp only; omega), set_bank (r₀ := 0) (c₀ := 0), dif_neg (by simp only; omega)]
    · unfold foldedFilt
      rw [dif_neg h]
      pointwise
    all_goals (after_reads_at; try rfl)

set_option maxHeartbeats 2000000 in
/-- The banded matrix of the first convolution: row `128 t + o`, column `136 s + k`. -/
theorem band1 (t s : Fin 4) (o : Fin 128) (k : Fin 136) :
    V m c main_v93 (ix2 ⟨128 * t.val + o.val, by omega⟩ ⟨136 * s.val + k.val, by omega⟩)
      = if h : k.val < 129 then banded (netK m c).w1 o ⟨k.val, h⟩ (s.val + 1) t.val else 0 := by
  unfold V; after_reads_at
  have ho := o.isLt
  have hk := k.isLt
  rw [set_band (r₀ := 384) (c₀ := 408), set_band (r₀ := 384) (c₀ := 272), set_band (r₀ := 256) (c₀ := 408),
    set_band (r₀ := 256) (c₀ := 272), set_band (r₀ := 256) (c₀ := 136), set_band (r₀ := 128) (c₀ := 272),
    set_band (r₀ := 128) (c₀ := 136), set_band (r₀ := 128) (c₀ := 0), set_band (r₀ := 0) (c₀ := 136),
    set_band (r₀ := 0) (c₀ := 0)]
  · unfold banded
    by_cases hk' : k.val < 129
    · rw [dif_pos hk']
      fin_cases t <;> fin_cases s <;>
        simp only [Nat.reduceMul, Nat.reduceAdd, Nat.reduceLeDiff, Nat.reduceLT, and_self, and_true, and_false,
          false_and, reduceDIte] <;>
        (repeat first | rw [dif_neg (by omega)] | rw [dif_pos (by omega)]) <;>
        first
        | (refine congrArg (m (c, Proc.tc.devRef main_arg4)) ?_
           refine congrArg₂ (fun a b => ix3 a b _) ?_ ?_ <;> (apply Fin.ext; simp; try omega))
        | pointwise
    · rw [dif_neg hk']
      fin_cases t <;> fin_cases s <;>
        simp only [Nat.reduceMul, Nat.reduceAdd, Nat.reduceLeDiff, Nat.reduceLT, and_self, and_true, and_false,
          false_and, reduceDIte] <;>
        (repeat rw [dif_neg (by omega)]) <;> pointwise
  all_goals (after_reads_at; try rfl)

/-- The bias of layer 1, once for each frame. -/
theorem bias1 (t : Fin 4) (o : Fin 128) (j : Fin 1024) :
    V m c main_v98 (ix2 ⟨128 * t.val + o.val, by omega⟩ j) = (netK m c).b1 o := by
  unfold V; after_reads_at
  show m _ _ = m _ _
  refine congrArg (m (c, Proc.tc.devRef main_arg5)) (congrArg ix1 (Fin.ext ?_))
  simp only; omega

/-- The banded matrix of the second convolution, which keeps every second frame. -/
theorem band2 (t : Fin 2) (s : Fin 4) (o : Fin 64) (k : Fin 128) :
    V m c main_v113 (ix2 ⟨64 * t.val + o.val, by omega⟩ ⟨128 * s.val + k.val, by omega⟩)
      = banded (netK m c).w2 o k (s.val + 1) (2 * t.val) := by
  unfold V; after_reads_at
  have hk := k.isLt
  fin_cases t <;> fin_cases s <;>
    simp only [Nat.reduceMul, Nat.reduceAdd, Nat.reduceLeDiff, Nat.reduceLT, Fin.isValue, reduceDIte] <;>
    (repeat first | rw [dif_neg (by omega)] | rw [dif_pos (by omega)]) <;>
    after_reads_at <;>
    (repeat first | rw [dif_neg (by omega)] | rw [dif_pos (by omega)]) <;>
    after_reads_at <;> unfold banded <;>
    first
    | (rw [dif_pos (by omega)]
       refine congrArg (m (c, Proc.tc.devRef main_arg6)) ?_
       refine congrArg₂ (fun a b => ix3 a b _) ?_ ?_ <;> (apply Fin.ext; simp; try omega))
    | (rw [dif_neg (by omega)]
       try pointwise)
    | (pointwise
       rw [dif_neg (by omega)])

/-- The bias of layer 2, once for each frame. -/
theorem bias2 (t : Fin 2) (o : Fin 64) (j : Fin 1024) :
    V m c main_v116 (ix2 ⟨64 * t.val + o.val, by omega⟩ j) = (netK m c).b2 o := by
  unfold V; after_reads_at; after_reads_at
  fin_cases t
  · rw [dif_pos (by simp only; omega)]
    refine congrArg (m (c, Proc.tc.devRef main_arg7)) (congrArg ix1 (Fin.ext ?_))
    simp
  · rw [dif_neg (by simp only; omega)]
    refine congrArg (m (c, Proc.tc.devRef main_arg7)) (congrArg ix1 (Fin.ext ?_))
    simp

/-- The matrix of the third convolution: its last two taps side by side. -/
theorem band3 (s : Fin 2) (o : Fin 64) (k : Fin 64) :
    V m c main_v122 (ix2 o ⟨64 * s.val + k.val, by omega⟩) = banded (netK m c).w3 o k (s.val + 1) 0 := by
  unfold V; after_reads_at
  fin_cases s
  · rw [dif_pos (by simp only; omega)]
    after_reads_at
    rfl
  · rw [dif_neg (by simp only; omega)]
    after_reads_at
    rfl

/-- The bias of layer 3. -/
theorem bias3 (o : Fin 64) (j : Fin 1024) : V m c main_v124 (ix2 o j) = (netK m c).b3 o := by
  unfold V; after_reads_at
  first | done | rfl

/-- The fourth convolution sees one frame between two of zeros, so only its middle tap. -/
theorem mat4 (o : Fin 128) (k : Fin 64) : V m c main_v127 (ix2 o k) = (netK m c).w4 o k 1 := by
  unfold V; after_reads_at
  first | done | rfl

/-- The bias of layer 4. -/
theorem bias4 (o : Fin 128) (j : Fin 1024) : V m c main_v129 (ix2 o j) = (netK m c).b4 o := by
  unfold V; after_reads_at
  first | done | rfl

/-- The LSTM's two matrices, side by side. -/
theorem gates_in (q : Fin 512) (k : Fin 128) : V m c main_v131 (ix2 q ⟨k.val, by omega⟩) = (netK m c).wi q k := by
  unfold V; after_reads_at; after_reads_at; rfl

/-- The LSTM's weights for the hidden state, right of those for the features. -/
theorem gates_state (q : Fin 512) (k : Fin 128) :
    V m c main_v131 (ix2 q ⟨128 + k.val, by omega⟩) = (netK m c).wh q k := by
  unfold V; after_reads_at; after_reads_at; rfl

/-- The LSTM's two biases, added. -/
theorem gate_bias (q : Fin 512) (j : Fin 1024) : V m c main_v134 (ix2 q j) = (netK m c).bi q + (netK m c).bh q := by
  unfold V; after_reads_at
  first | done | rfl

/-- The weights of the output head. -/
theorem head_row (k : Fin 128) (j : Fin 1024) : V m c main_v136 (ix2 k j) = (netK m c).wo k := by
  unfold V; after_reads_at
  first | done | rfl

/-- The bias of the output head. -/
theorem head_bias (j : Fin 1024) : V m c main_v138 (ix2 0 j) = (netK m c).bo := by
  unfold V; after_reads_at
  first | done | rfl

end Cert.Vad

end
-- ==== Proof.KernelArray.lean ====
/-
  The kernel's three result arrays: every point of the grid loads the recordings of its block and leaves the model's
  results on them, so each array holds the model's results on all recordings.
-/
module

public import proofs.«01_k».proof.Proof.BlockNet
public import proofs.«01_k».proof.Proof.HostVals
public import proofs.«01_k».proof.Proof.Gen.KernelIdeal.Value

@[expose] public section

set_option maxRecDepth 16384

noncomputable section

namespace Cert.Vad

open Idealize.ShloMosaic Idealize.ShloMosaic.TcCoe Idealize.SL.Sem Cert.KernelIdeal Cert.KernelIdeal.Gen

variable (m : (ℓ : Loc nD τ sig) → Buf (Elt Ideal) ℓ) (c : Dev nD)

/-- The recording in column `j` of point `t`'s block. -/
def recAt (t : Fin cfg0.N) (j : Fin 1024) : Fin 8192 := ⟨1024 * t.val + j.val, by have := t.isLt; have h : cfg0.N = 8 := rfl; omega⟩

/-! ## Where the blocks lie -/

/-- The place of each point's block of samples, and below of its states and results. -/
theorem place0 : ∀ t : Fin cfg0.N, win0_0.index t = ![0, t.val] := (by decide +kernel : ∀ t : Fin grid0.N, _)
theorem place1 : ∀ t : Fin cfg0.N, win0_1.index t = ![t.val, 0] := (by decide +kernel : ∀ t : Fin grid0.N, _)
theorem place2 : ∀ t : Fin cfg0.N, win0_2.index t = ![t.val, 0] := (by decide +kernel : ∀ t : Fin grid0.N, _)
theorem place17 : ∀ t : Fin cfg0.N, win0_17.index t = ![0, t.val] := (by decide +kernel : ∀ t : Fin grid0.N, _)
theorem place18 : ∀ t : Fin cfg0.N, win0_18.index t = ![t.val, 0] := (by decide +kernel : ∀ t : Fin grid0.N, _)
theorem place19 : ∀ t : Fin cfg0.N, win0_19.index t = ![t.val, 0] := (by decide +kernel : ∀ t : Fin grid0.N, _)
/-- The weights come whole. -/
theorem placed : ∀ t : Fin cfg0.N, win0_3.index t = ![0, 0]
      ∧ win0_4.index t = ![0, 0]
      ∧ win0_5.index t = ![0, 0]
      ∧ win0_6.index t = ![0, 0]
      ∧ win0_7.index t = ![0, 0]
      ∧ win0_8.index t = ![0, 0]
      ∧ win0_9.index t = ![0, 0]
      ∧ win0_10.index t = ![0, 0]
      ∧ win0_11.index t = ![0, 0]
      ∧ win0_12.index t = ![0, 0]
      ∧ win0_13.index t = ![0, 0]
      ∧ win0_14.index t = ![0, 0]
      ∧ win0_15.index t = ![0, 0]
      ∧ win0_16.index t = ![0, 0] :=
  (by decide +kernel : ∀ t : Fin grid0.N, _)

/-- A block of samples. -/
theorem block0 (t : Fin cfg0.N) (n : Fin 4160) (j : Fin 1024) :
    (iblk m c 0 t : Vec Ideal S4160x1024 .f32) (ix2 n j) = V m c main_v0 (ix2 n (recAt t j)) := by
  blk_simp [iblk]
  refine congrArg _ ?_
  unfold recAt
  blk_ext [place0]

/-- A block of the hidden states. -/
theorem block1 (t : Fin cfg0.N) (j : Fin 1024) (k : Fin 128) :
    (iblk m c 1 t : Vec Ideal S1024x128 .f32) (ix2 j k) = m ((c : Thread nD τ).loc main_arg1) (ix2 (recAt t j) k) := by
  unfold recAt
  blk_ext [iblk, V, place1 t]

/-- A block of the cell states. -/
theorem block2 (t : Fin cfg0.N) (j : Fin 1024) (k : Fin 128) :
    (iblk m c 2 t : Vec Ideal S1024x128 .f32) (ix2 j k) = m ((c : Thread nD τ).loc main_arg2) (ix2 (recAt t j) k) := by
  unfold recAt
  blk_ext [iblk, V, place2 t]

set_option maxHeartbeats 4000000 in
/-- The block of a window that covers its array is the array. -/
theorem blocks (t : Fin cfg0.N) : (iblk m c 3 t : Vec Ideal S272x256 .bf16) = V m c main_v17
      ∧ (iblk m c 4 t : Vec Ideal S272x256 .bf16) = V m c main_v31
      ∧ (iblk m c 5 t : Vec Ideal S512x544 .bf16) = V m c main_v93
      ∧ (iblk m c 6 t : Vec Ideal S512x1024 .f32) = V m c main_v98
      ∧ (iblk m c 7 t : Vec Ideal S128x512 .bf16) = V m c main_v113
      ∧ (iblk m c 8 t : Vec Ideal S128x1024 .f32) = V m c main_v116
      ∧ (iblk m c 9 t : Vec Ideal S64x128 .bf16) = V m c main_v122
      ∧ (iblk m c 10 t : Vec Ideal S64x1024 .f32) = V m c main_v124
      ∧ (iblk m c 11 t : Vec Ideal S128x64 .bf16) = V m c main_v127
      ∧ (iblk m c 12 t : Vec Ideal S128x1024 .f32) = V m c main_v129
      ∧ (iblk m c 13 t : Vec Ideal S512x256 .bf16) = V m c main_v131
      ∧ (iblk m c 14 t : Vec Ideal S512x1024 .f32) = V m c main_v134
      ∧ (iblk m c 15 t : Vec Ideal S128x1024 .f32) = V m c main_v136
      ∧ (iblk m c 16 t : Vec Ideal S1x1024 .f32) = V m c main_v138 := by
  obtain ⟨p3, p4, p5, p6, p7, p8, p9, p10, p11, p12, p13, p14, p15, p16⟩ := placed t
  refine ⟨?_, ?_, ?_, ?_, ?_, ?_, ?_, ?_, ?_, ?_, ?_, ?_, ?_, ?_⟩ <;> funext y <;> blk_simp [iblk] <;> refine congrArg _ ?_ <;>
    blk_ext [p3, p4, p5, p6, p7, p8, p9, p10, p11, p12, p13, p14, p15, p16]

/-- Column `j` of the blocks at point `t` holds recording `1024 t + j`, its states and the weights. -/
theorem loaded (t : Fin cfg0.N) (j : Fin 1024) :
    Loaded (netK m c) (recording (m ((c : Thread nD τ).loc main_arg0)) (recAt t j)) (stateRow (m ((c : Thread nD τ).loc main_arg1)) (recAt t j))
      (stateRow (m ((c : Thread nD τ).loc main_arg2)) (recAt t j)) (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t)
      (iblk m c 13 t) (iblk m c 14 t) (iblk m c 15 t) (iblk m c 16 t) j := by
  obtain ⟨e3, e4, e5, e6, e7, e8, e9, e10, e11, e12, e13, e14, e15, e16⟩ := blocks m c t
  rw [e3, e4, e5, e6, e7, e8, e9, e10, e11, e12, e13, e14, e15, e16]
  exact {
    samples := fun n => (block0 m c t n j).trans (samples_apply m c n _)
    hidden := fun k => block1 m c t j k
    cell := fun k => block2 m c t j k
    re := bank_re m c, im := bank_im m c, re0 := folded_re m c, im0 := folded_im m c
    w1 := band1 m c, b1 := fun t o => bias1 m c t o j, w2 := band2 m c, b2 := fun t o => bias2 m c t o j
    w3 := band3 m c, b3 := fun o => bias3 m c o j, w4 := mat4 m c, b4 := fun o => bias4 m c o j
    wi := gates_in m c, wh := gates_state m c, bias := fun q => gate_bias m c q j
    wo := fun k => head_row m c k j, bo := head_bias m c j }

/-! ## The result arrays -/

/-- The states of recording `b` after all eight chunks. -/
def finalStates (b : Fin 8192) : (Fin 128 → EReal) × (Fin 128 → EReal) :=
  states (netK m c) (recording (m ((c : Thread nD τ).loc main_arg0)) b) (stateRow (m ((c : Thread nD τ).loc main_arg1)) b)
    (stateRow (m ((c : Thread nD τ).loc main_arg2)) b) 8

/-- The probability that recording `b` holds no speech. -/
def finalSilence (b : Fin 8192) : EReal :=
  silence (netK m c) (recording (m ((c : Thread nD τ).loc main_arg0)) b) (stateRow (m ((c : Thread nD τ).loc main_arg1)) b)
    (stateRow (m ((c : Thread nD τ).loc main_arg2)) b) 8

variable (T : ∀ b, Tame (netK m c) (recording (m ((c : Thread nD τ).loc main_arg0)) b))
include T

/-- The hidden states after the run. -/
theorem array_h : (dats m 0 c).arrAt 18 cfg0.N = fun i : S8192x128.Idx => (finalStates m c (i 0)).1 (i 1) := by
  refine (dats m 0 c).arrAt_eq_of_covers 18 _ (by decide +kernel) fun t hf y => ?_
  blk_simp
  obtain ⟨j, k, rfl⟩ : ∃ (j : Fin 1024) (k : Fin 128), y = ix2 j k := ⟨y 0, y 1, eq_ix2 y⟩
  rw [after0_18, out_h, View.canon_unit_zero (by funext a; fin_cases a <;> rfl)]
  have e0 : ((win0_18.blk t).view.emb (ix2 j k)) 0 = recAt t j := Fin.ext (by unfold recAt; blk_simp [place18]; show _ = 1024 * t.val + j.val; omega)
  have e1 : ((win0_18.blk t).view.emb (ix2 j k)) 1 = k := Fin.ext (by blk_simp [place18])
  dsimp only
  rw [e0, e1]
  refine Eq.trans ?_ (states_eq (T (recAt t j)) (loaded m c t j) 8 le_rfl k).1
  pointwise

/-- The cell states after the run. -/
theorem array_c : (dats m 0 c).arrAt 19 cfg0.N = fun i : S8192x128.Idx => (finalStates m c (i 0)).2 (i 1) := by
  refine (dats m 0 c).arrAt_eq_of_covers 19 _ (by decide +kernel) fun t hf y => ?_
  blk_simp
  obtain ⟨j, k, rfl⟩ : ∃ (j : Fin 1024) (k : Fin 128), y = ix2 j k := ⟨y 0, y 1, eq_ix2 y⟩
  rw [after0_19, out_c, View.canon_unit_zero (by funext a; fin_cases a <;> rfl)]
  have e0 : ((win0_19.blk t).view.emb (ix2 j k)) 0 = recAt t j := Fin.ext (by unfold recAt; blk_simp [place19]; show _ = 1024 * t.val + j.val; omega)
  have e1 : ((win0_19.blk t).view.emb (ix2 j k)) 1 = k := Fin.ext (by blk_simp [place19])
  dsimp only
  rw [e0, e1]
  refine Eq.trans ?_ (states_eq (T (recAt t j)) (loaded m c t j) 8 le_rfl k).2
  pointwise

/-- The probabilities of speech after the run. -/
theorem array_p : (dats m 0 c).arrAt 17 cfg0.N = fun i : S1x8192.Idx => 1 - finalSilence m c (i 1) := by
  refine (dats m 0 c).arrAt_eq_of_covers 17 _ (by decide +kernel) fun t hf y => ?_
  blk_simp
  obtain ⟨z, j, rfl⟩ : ∃ (z : Fin 1) (j : Fin 1024), y = ix2 z j := ⟨y 0, y 1, eq_ix2 y⟩
  obtain rfl : z = 0 := Subsingleton.elim _ _
  rw [after0_17, out_p, View.canon_unit_zero (by funext a; fin_cases a <;> rfl)]
  have e1 : ((win0_17.blk t).view.emb (ix2 0 j)) 1 = recAt t j := Fin.ext (by unfold recAt; blk_simp [place17]; show _ = 1024 * t.val + j.val; omega)
  dsimp only
  rw [e1]
  unfold finalSilence
  rw [← silence_eq (T (recAt t j)) (loaded m c t j) 8 le_rfl]
  pointwise

end Cert.Vad

end
-- ==== Proof.RefFront.lean ====
/-
  The reference's spectrum and convolutions, read at an element over any contents that the operations start from.
-/
module

public import proofs.«01_k».proof.Proof.Spec
public import proofs.«01_k».proof.Proof.Gen.ReferenceIdeal.Run
public import Idealize.ShloMosaic.Lib.Pointwise
public import Idealize.ShloMosaic.Lib.StableHlo.ReadAt

@[expose] public section

set_option maxRecDepth 16384

noncomputable section

namespace Cert.Vad.Ref

open Idealize.ShloMosaic Idealize.ShloMosaic.StableHlo Idealize.ShloMosaic.TcCoe Idealize.SL.Sem Cert.ReferenceIdeal Cert.ReferenceIdeal.Gen Cert.ReferenceIdeal.Value

variable (X : Valuation τ sig (Elt Ideal))

/-- The word 0 as a float. -/
theorem sitofp_zero : (FloatOps.sitofp .f32 (0#32 : BitVec 32) : Ideal .f32) = (0 : EReal) := by
  show (((0#32 : BitVec 32).toInt : ℝ) : EReal) = 0
  simp

/-- Row `8192 i + b` of the stacked chunks is chunk `i` of recording `b`. -/
theorem stack_apply (i : Fin 8) (b : Fin 8192) (n : Fin 576) :
    after hostOps0 X (Proc.devRef .tc main_v17) (ix2 ⟨8192 * i.val + b.val, by omega⟩ n)
      = recording (X (Proc.devRef .tc main_arg0)) b (512 * i.val + n.val) := by
  have hb := b.isLt
  rw [recording, dif_pos (by omega)]
  after_reads_at
  obtain ⟨i, hi⟩ := i
  dsimp only
  interval_cases i <;> simp only [Nat.reduceSub, Nat.reduceLT, ↓reduceDIte] <;> after_reads_at

/-- A row with 64 samples mirrored in front of it. -/
theorem pad_apply (r : Fin 65536) (n : Fin 640) :
    after hostOps0_1 X (Proc.devRef .tc main_v18) (ix2 r ⟨n.val, by omega⟩)
      = (X (Proc.devRef .tc main_v17) : FVec Ideal S65536x576 .f32) (ix2 r ⟨if n.val < 64 then 64 - n.val else n.val - 64, by split <;> omega⟩) := by
  after_reads_at
  after_reads_at
  split
  · after_reads_at
    refine congrArg _ (congrArg₂ ix2 ?_ (Fin.ext ?_))
    · simp
    · simp [Fin.rev]; omega
  · after_reads_at

/-- The magnitude of bin `f` of frame `t`. -/
theorem mag_apply (r : Fin 65536) (f : Fin 129) (t : Fin 4) (w : Fin 258 → Fin 256 → EReal) (x : ℕ → EReal)
    (hw : ∀ f n, (X (Proc.devRef .tc main_arg3) : FVec Ideal S258x1x256 .f32) (ix3 f 0 n) = w f n)
    (hx : ∀ n : Fin 640, (X (Proc.devRef .tc main_v18) : FVec Ideal S65536x704 .f32) (ix2 r ⟨n.val, by omega⟩) = x n.val) :
    after hostOps0_2 X (Proc.devRef .tc main_v45) (ix3 r f t)
      = Ideal.sqrt ((∑ n : Fin 256, x (128 * t.val + n.val) * w ⟨f.val, by omega⟩ n) * (∑ n : Fin 256, x (128 * t.val + n.val) * w ⟨f.val, by omega⟩ n)
        + (∑ n : Fin 256, x (128 * t.val + n.val) * w ⟨129 + f.val, by omega⟩ n) * (∑ n : Fin 256, x (128 * t.val + n.val) * w ⟨129 + f.val, by omega⟩ n)) := by
  simp only [← hw]
  have hx' : ∀ n : Fin 256, x (128 * t.val + n.val) = (X (Proc.devRef .tc main_v18) : FVec Ideal S65536x704 .f32) (ix2 r ⟨128 * t.val + n.val, by omega⟩) :=
    fun n => (hx ⟨128 * t.val + n.val, by omega⟩).symm
  simp only [hx']
  after_reads_at
  obtain ⟨t, ht⟩ := t
  dsimp only
  interval_cases t <;> simp only [Nat.reduceSub, Nat.reduceLT, ↓reduceDIte] <;> after_reads_at

/-! ## The convolutions -/

/-- A sum of three products with the frames, the bias and the rectifier. -/
theorem conv_eq {O C L : ℕ} {w : Fin O → Fin C → Fin 3 → EReal} {b : Fin O → EReal} {x : ℕ → Fin C → EReal} {p : ℕ} {o : Fin O}
    {A0 A1 A2 W0 W1 W2 : Fin C → EReal} {B : EReal} {p0 p1 p2 : ℕ} (h0 : ∀ c, A0 c = framed L x p0 c) (h1 : ∀ c, A1 c = framed L x p1 c)
    (h2 : ∀ c, A2 c = framed L x p2 c) (g0 : ∀ c, W0 c = w o c 0) (g1 : ∀ c, W1 c = w o c 1) (g2 : ∀ c, W2 c = w o c 2) (hb : B = b o)
    (q0 : p0 = p) (q1 : p1 = p + 1) (q2 : p2 = p + 2) :
    max ((∑ c, A0 c * W0 c) + (∑ c, A1 c * W1 c) + (∑ c, A2 c * W2 c) + B) 0 = conv w b L x p o := by
  subst q0 q1 q2 hb
  unfold conv tap
  simp only [h0, h1, h2, g0, g1, g2, mul_comm]

/-- The framed magnitudes: a frame of zeros, four frames, a frame of zeros. -/
theorem frames1 (r : Fin 65536) (f : Fin 129) (p : Fin 6) (x : ℕ → Fin 129 → EReal)
    (hx : ∀ (t : Fin 4) f, (X (Proc.devRef .tc main_v45) : FVec Ideal S65536x129x4 .f32) (ix3 r f t) = x t.val f)
    (hc : X (Proc.devRef .tc main_c_0) = fun _ => (0#32 : BitVec 32)) :
    after hostOps0_3 X (Proc.devRef .tc main_v46) (ix3 r f p) = framed 4 x p.val f := by
  after_reads_at
  unfold framed
  split
  · rw [if_pos (by omega)]
    exact hx ⟨p.val - 1, by omega⟩ f
  · rw [if_neg (by omega), hc]
    exact sitofp_zero

/-- Convolution 1, over rows that hold the frames `x`. -/
theorem layer1 (r : Fin 65536) (o : Fin 128) (t : Fin 4) (x : ℕ → Fin 129 → EReal) (w : Fin 128 → Fin 129 → Fin 3 → EReal) (b : Fin 128 → EReal)
    (hx : ∀ (t : Fin 4) f, (X (Proc.devRef .tc main_v45) : FVec Ideal S65536x129x4 .f32) (ix3 r f t) = x t.val f)
    (hw : ∀ o f d, (X (Proc.devRef .tc main_arg4) : FVec Ideal S128x129x3 .f32) (ix3 o f d) = w o f d)
    (hb : ∀ o, (X (Proc.devRef .tc main_arg5) : FVec Ideal S128 .f32) (ix1 o) = b o)
    (hc : X (Proc.devRef .tc main_c_0) = fun _ => (0#32 : BitVec 32)) :
    after hostOps0_5 (after hostOps0_4 (after hostOps0_3 X)) (Proc.devRef .tc main_v69) (ix3 r o t) = conv w b 4 x t.val o := by
  have h := fun f p => frames1 X r f p x hx hc
  rw [← keep_main_arg4_hostOps0_3 X] at hw
  rw [← keep_main_arg5_hostOps0_3 X] at hb
  generalize after hostOps0_3 X = Y at *
  after_reads_at
  exact conv_eq (fun f => h f _) (fun f => h f _) (fun f => h f _) (fun f => hw o f 0) (fun f => hw o f 1) (fun f => hw o f 2) (hb o)
    (by simp) (by simp <;> omega) (by simp <;> omega)

/-- The framed result of layer 1. -/
theorem frames2 (r : Fin 65536) (f : Fin 128) (p : Fin 6) (x : ℕ → Fin 128 → EReal)
    (hx : ∀ (t : Fin 4) f, (X (Proc.devRef .tc main_v69) : FVec Ideal S65536x128x4 .f32) (ix3 r f t) = x t.val f)
    (hc : X (Proc.devRef .tc main_c_1) = fun _ => (0#32 : BitVec 32)) :
    after hostOps0_7 X (Proc.devRef .tc main_v70) (ix3 r f p) = framed 4 x p.val f := by
  after_reads_at
  unfold framed
  split
  · rw [if_pos (by omega)]
    exact hx ⟨p.val - 1, by omega⟩ f
  · rw [if_neg (by omega), hc]
    exact sitofp_zero

/-- Convolution 2, over rows that hold the frames `x`. -/
theorem layer2 (r : Fin 65536) (o : Fin 64) (t : Fin 2) (x : ℕ → Fin 128 → EReal) (w : Fin 64 → Fin 128 → Fin 3 → EReal) (b : Fin 64 → EReal)
    (hx : ∀ (t : Fin 4) f, (X (Proc.devRef .tc main_v69) : FVec Ideal S65536x128x4 .f32) (ix3 r f t) = x t.val f)
    (hw : ∀ o f d, (X (Proc.devRef .tc main_arg6) : FVec Ideal S64x128x3 .f32) (ix3 o f d) = w o f d)
    (hb : ∀ o, (X (Proc.devRef .tc main_arg7) : FVec Ideal S64 .f32) (ix1 o) = b o)
    (hc : X (Proc.devRef .tc main_c_1) = fun _ => (0#32 : BitVec 32)) :
    after hostOps0_9 (after hostOps0_8 (after hostOps0_7 X)) (Proc.devRef .tc main_v93) (ix3 r o t) = conv w b 4 x (2 * t.val) o := by
  have h := fun f p => frames2 X r f p x hx hc
  rw [← keep_main_arg6_hostOps0_7 X] at hw
  rw [← keep_main_arg7_hostOps0_7 X] at hb
  generalize after hostOps0_7 X = Y at *
  after_reads_at
  exact conv_eq (fun f => h f _) (fun f => h f _) (fun f => h f _) (fun f => hw o f 0) (fun f => hw o f 1) (fun f => hw o f 2) (hb o)
    (by simp) (by simp <;> omega) (by simp <;> omega)

/-- The framed result of layer 2. -/
theorem frames3 (r : Fin 65536) (f : Fin 64) (p : Fin 4) (x : ℕ → Fin 64 → EReal)
    (hx : ∀ (t : Fin 2) f, (X (Proc.devRef .tc main_v93) : FVec Ideal S65536x64x2 .f32) (ix3 r f t) = x t.val f)
    (hc : X (Proc.devRef .tc main_c_3) = fun _ => (0#32 : BitVec 32)) :
    after hostOps0_11 X (Proc.devRef .tc main_v94) (ix3 r f p) = framed 2 x p.val f := by
  after_reads_at
  unfold framed
  split
  · rw [if_pos (by omega)]
    exact hx ⟨p.val - 1, by omega⟩ f
  · rw [if_neg (by omega), hc]
    exact sitofp_zero

/-- Convolution 3, over rows that hold the frames `x`. -/
theorem layer3 (r : Fin 65536) (o : Fin 64) (t : Fin 1) (x : ℕ → Fin 64 → EReal) (w : Fin 64 → Fin 64 → Fin 3 → EReal) (b : Fin 64 → EReal)
    (hx : ∀ (t : Fin 2) f, (X (Proc.devRef .tc main_v93) : FVec Ideal S65536x64x2 .f32) (ix3 r f t) = x t.val f)
    (hw : ∀ o f d, (X (Proc.devRef .tc main_arg8) : FVec Ideal S64x64x3 .f32) (ix3 o f d) = w o f d)
    (hb : ∀ o, (X (Proc.devRef .tc main_arg9) : FVec Ideal S64 .f32) (ix1 o) = b o)
    (hc : X (Proc.devRef .tc main_c_3) = fun _ => (0#32 : BitVec 32)) :
    after hostOps0_13 (after hostOps0_12 (after hostOps0_11 X)) (Proc.devRef .tc main_v117) (ix3 r o t) = conv w b 2 x (2 * t.val) o := by
  have h := fun f p => frames3 X r f p x hx hc
  rw [← keep_main_arg8_hostOps0_11 X] at hw
  rw [← keep_main_arg9_hostOps0_11 X] at hb
  generalize after hostOps0_11 X = Y at *
  after_reads_at
  exact conv_eq (fun f => h f _) (fun f => h f _) (fun f => h f _) (fun f => hw o f 0) (fun f => hw o f 1) (fun f => hw o f 2) (hb o)
    (by simp) (by simp <;> omega) (by simp <;> omega)

/-- The framed result of layer 3. -/
theorem frames4 (r : Fin 65536) (f : Fin 64) (p : Fin 3) (x : ℕ → Fin 64 → EReal)
    (hx : ∀ (t : Fin 1) f, (X (Proc.devRef .tc main_v117) : FVec Ideal S65536x64x1 .f32) (ix3 r f t) = x t.val f)
    (hc : X (Proc.devRef .tc main_c_5) = fun _ => (0#32 : BitVec 32)) :
    after hostOps0_15 X (Proc.devRef .tc main_v118) (ix3 r f p) = framed 1 x p.val f := by
  after_reads_at
  unfold framed
  split
  · rw [if_pos (by omega)]
    exact hx ⟨p.val - 1, by omega⟩ f
  · rw [if_neg (by omega), hc]
    exact sitofp_zero

/-- Convolution 4, over rows that hold the frames `x`. -/
theorem layer4 (r : Fin 65536) (o : Fin 128) (t : Fin 1) (x : ℕ → Fin 64 → EReal) (w : Fin 128 → Fin 64 → Fin 3 → EReal) (b : Fin 128 → EReal)
    (hx : ∀ (t : Fin 1) f, (X (Proc.devRef .tc main_v117) : FVec Ideal S65536x64x1 .f32) (ix3 r f t) = x t.val f)
    (hw : ∀ o f d, (X (Proc.devRef .tc main_arg10) : FVec Ideal S128x64x3 .f32) (ix3 o f d) = w o f d)
    (hb : ∀ o, (X (Proc.devRef .tc main_arg11) : FVec Ideal S128 .f32) (ix1 o) = b o)
    (hc : X (Proc.devRef .tc main_c_5) = fun _ => (0#32 : BitVec 32)) :
    after hostOps0_17 (after hostOps0_16 (after hostOps0_15 X)) (Proc.devRef .tc main_v141) (ix3 r o t) = conv w b 1 x t.val o := by
  have h := fun f p => frames4 X r f p x hx hc
  rw [← keep_main_arg10_hostOps0_15 X] at hw
  rw [← keep_main_arg11_hostOps0_15 X] at hb
  generalize after hostOps0_15 X = Y at *
  after_reads_at
  exact conv_eq (fun f => h f _) (fun f => h f _) (fun f => h f _) (fun f => hw o f 0) (fun f => hw o f 1) (fun f => hw o f 2) (hb o)
    (by simp) (by simp <;> omega) (by simp <;> omega)

end Cert.Vad.Ref

end
-- ==== Proof.RefEntry.lean ====
/-
  What the reference's arrays hold when its loop starts: the features of every chunk, the weights and the first states.
-/
module

public import proofs.«01_k».proof.Proof.RefFront

@[expose] public section

set_option maxRecDepth 16384

noncomputable section

namespace Cert.Vad.Ref

open Idealize.ShloMosaic Idealize.ShloMosaic.StableHlo Idealize.ShloMosaic.TcCoe Idealize.SL.Sem Cert.ReferenceIdeal Cert.ReferenceIdeal.Gen Cert.ReferenceIdeal.Value

variable (m : (ℓ : Loc nD τ sig) → Buf (Elt Ideal) ℓ) (c : Dev nD)

/-- The weights that the reference's arguments hold. -/
def netR : Net :=
  netOf (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))

/-- Recording `b`. -/
def rec (b : Fin 8192) : ℕ → EReal := recording (m ((c.tc : Thread nD τ).loc main_arg0)) b

/-- The contents after the magnitudes. -/
def after2 : Valuation τ sig (Elt Ideal) := after hostOps0_2 (after hostOps0_1 (after hostOps0 (launchContents m c)))
/-- The contents after the first convolution. -/
def after5 : Valuation τ sig (Elt Ideal) := after hostOps0_5 (after hostOps0_4 (after hostOps0_3 (after2 m c)))
/-- The contents after the second convolution. -/
def after9 : Valuation τ sig (Elt Ideal) := after hostOps0_9 (after hostOps0_8 (after hostOps0_7 (after hostOps0_6 (after5 m c))))
/-- The contents after the third convolution. -/
def after13 : Valuation τ sig (Elt Ideal) := after hostOps0_13 (after hostOps0_12 (after hostOps0_11 (after hostOps0_10 (after9 m c))))
/-- The contents after the fourth convolution. -/
def after17 : Valuation τ sig (Elt Ideal) := after hostOps0_17 (after hostOps0_16 (after hostOps0_15 (after hostOps0_14 (after13 m c))))

/-- The loop starts from the contents after the rest of the host code. -/
theorem entry_eq : entryContents preI m c = after hostOps0_18 (after17 m c) := rfl

/-- The row of chunk `i` of recording `b`. -/
def row (i : Fin 8) (b : Fin 8192) : Fin 65536 := ⟨8192 * i.val + b.val, by omega⟩

/-- The magnitudes that the reference computes are the model's. -/
theorem mag_eq (i : Fin 8) (b : Fin 8192) (t : Fin 4) (f : Fin 129) :
    (after2 m c (Proc.devRef .tc main_v45) : FVec Ideal S65536x129x4 .f32) (ix3 (row i b) f t) = magnitude (netR m c) (rec m c b) i.val t.val f := by
  refine mag_apply (after hostOps0_1 (after hostOps0 (launchContents m c))) (row i b) f t (netR m c).filt (mirrored (rec m c b) i.val) ?_ fun n => ?_
  · intro f n
    rw [keep_main_arg3_hostOps0_1, keep_main_arg3_hostOps0]
    rfl
  · refine (pad_apply (after hostOps0 (launchContents m c)) (row i b) n).trans ?_
    refine (stack_apply (launchContents m c) i b _).trans ?_
    unfold mirrored rec
    dsimp only
    split <;> rfl

/-- So is the first layer. -/
theorem enc1_eq (i : Fin 8) (b : Fin 8192) (t : Fin 4) (o : Fin 128) :
    (after5 m c (Proc.devRef .tc main_v69) : FVec Ideal S65536x128x4 .f32) (ix3 (row i b) o t) = enc1 (netR m c) (rec m c b) i.val t.val o := by
  refine layer1 (after2 m c) (row i b) o t (magnitude (netR m c) (rec m c b) i.val) (netR m c).w1 (netR m c).b1 (fun t f => (mag_eq m c i b t f)) ?_ ?_ ?_
  · intro o f d
    unfold after2
    rw [keep_main_arg4_hostOps0_2, keep_main_arg4_hostOps0_1, keep_main_arg4_hostOps0]
    rfl
  · intro o
    unfold after2
    rw [keep_main_arg5_hostOps0_2, keep_main_arg5_hostOps0_1, keep_main_arg5_hostOps0]
    rfl
  · unfold after2
    after_reads_simp
    rfl

/-- So is the second layer. -/
theorem enc2_eq (i : Fin 8) (b : Fin 8192) (t : Fin 2) (o : Fin 64) :
    (after9 m c (Proc.devRef .tc main_v93) : FVec Ideal S65536x64x2 .f32) (ix3 (row i b) o t) = enc2 (netR m c) (rec m c b) i.val t.val o := by
  refine layer2 (after hostOps0_6 (after5 m c)) (row i b) o t (enc1 (netR m c) (rec m c b) i.val) (netR m c).w2 (netR m c).b2 (fun t f => (congrFun (after_of_writes_sub hostOps0_6 _ hostOps0_6_writes (by decide +kernel)) _).trans (enc1_eq m c i b t f)) ?_ ?_ ?_
  · intro o f d
    unfold after5 after2
    rw [keep_main_arg6_hostOps0_6, keep_main_arg6_hostOps0_5, keep_main_arg6_hostOps0_4, keep_main_arg6_hostOps0_3, keep_main_arg6_hostOps0_2, keep_main_arg6_hostOps0_1, keep_main_arg6_hostOps0]
    rfl
  · intro o
    unfold after5 after2
    rw [keep_main_arg7_hostOps0_6, keep_main_arg7_hostOps0_5, keep_main_arg7_hostOps0_4, keep_main_arg7_hostOps0_3, keep_main_arg7_hostOps0_2, keep_main_arg7_hostOps0_1, keep_main_arg7_hostOps0]
    rfl
  · after_reads_simp
    rfl

/-- So is the third layer. -/
theorem enc3_eq (i : Fin 8) (b : Fin 8192) (t : Fin 1) (o : Fin 64) :
    (after13 m c (Proc.devRef .tc main_v117) : FVec Ideal S65536x64x1 .f32) (ix3 (row i b) o t) = enc3 (netR m c) (rec m c b) i.val t.val o := by
  refine layer3 (after hostOps0_10 (after9 m c)) (row i b) o t (enc2 (netR m c) (rec m c b) i.val) (netR m c).w3 (netR m c).b3 (fun t f => (congrFun (after_of_writes_sub hostOps0_10 _ hostOps0_10_writes (by decide +kernel)) _).trans (enc2_eq m c i b t f)) ?_ ?_ ?_
  · intro o f d
    unfold after9 after5 after2
    rw [keep_main_arg8_hostOps0_10, keep_main_arg8_hostOps0_9, keep_main_arg8_hostOps0_8, keep_main_arg8_hostOps0_7, keep_main_arg8_hostOps0_6, keep_main_arg8_hostOps0_5, keep_main_arg8_hostOps0_4, keep_main_arg8_hostOps0_3, keep_main_arg8_hostOps0_2, keep_main_arg8_hostOps0_1, keep_main_arg8_hostOps0]
    rfl
  · intro o
    unfold after9 after5 after2
    rw [keep_main_arg9_hostOps0_10, keep_main_arg9_hostOps0_9, keep_main_arg9_hostOps0_8, keep_main_arg9_hostOps0_7, keep_main_arg9_hostOps0_6, keep_main_arg9_hostOps0_5, keep_main_arg9_hostOps0_4, keep_main_arg9_hostOps0_3, keep_main_arg9_hostOps0_2, keep_main_arg9_hostOps0_1, keep_main_arg9_hostOps0]
    rfl
  · after_reads_simp
    rfl

/-- So is the fourth layer. -/
theorem enc4_eq (i : Fin 8) (b : Fin 8192) (t : Fin 1) (o : Fin 128) :
    (after17 m c (Proc.devRef .tc main_v141) : FVec Ideal S65536x128x1 .f32) (ix3 (row i b) o t) = enc4 (netR m c) (rec m c b) i.val t.val o := by
  refine layer4 (after hostOps0_14 (after13 m c)) (row i b) o t (enc3 (netR m c) (rec m c b) i.val) (netR m c).w4 (netR m c).b4 (fun t f => (congrFun (after_of_writes_sub hostOps0_14 _ hostOps0_14_writes (by decide +kernel)) _).trans (enc3_eq m c i b t f)) ?_ ?_ ?_
  · intro o f d
    unfold after13 after9 after5 after2
    rw [keep_main_arg10_hostOps0_14, keep_main_arg10_hostOps0_13, keep_main_arg10_hostOps0_12, keep_main_arg10_hostOps0_11, keep_main_arg10_hostOps0_10, keep_main_arg10_hostOps0_9, keep_main_arg10_hostOps0_8, keep_main_arg10_hostOps0_7, keep_main_arg10_hostOps0_6, keep_main_arg10_hostOps0_5, keep_main_arg10_hostOps0_4, keep_main_arg10_hostOps0_3, keep_main_arg10_hostOps0_2, keep_main_arg10_hostOps0_1, keep_main_arg10_hostOps0]
    rfl
  · intro o
    unfold after13 after9 after5 after2
    rw [keep_main_arg11_hostOps0_14, keep_main_arg11_hostOps0_13, keep_main_arg11_hostOps0_12, keep_main_arg11_hostOps0_11, keep_main_arg11_hostOps0_10, keep_main_arg11_hostOps0_9, keep_main_arg11_hostOps0_8, keep_main_arg11_hostOps0_7, keep_main_arg11_hostOps0_6, keep_main_arg11_hostOps0_5, keep_main_arg11_hostOps0_4, keep_main_arg11_hostOps0_3, keep_main_arg11_hostOps0_2, keep_main_arg11_hostOps0_1, keep_main_arg11_hostOps0]
    rfl
  · after_reads_simp
    rfl

/-- The features of chunk `i`. -/
theorem features_eq (i : Fin 8) (b : Fin 8192) (k : Fin 128) :
    (entryContents preI m c (Proc.devRef .tc main_v145_0) : FVec Ideal S8x8192x128 .f32) (ix3 i b k) = feature (netR m c) (rec m c b) i.val k := by
  rw [entry_eq]
  refine Eq.trans ?_ (enc4_eq m c i b 0 k)
  unfold row
  generalize after17 m c = X
  after_reads_at
  exact congrArg (fun r : Fin 65536 => (X (Proc.devRef .tc main_v141) : FVec Ideal S65536x128x1 .f32) (ix3 r k 0)) (Fin.ext (by show i.val * 8192 + b.val = 8192 * i.val + b.val; omega))

end Cert.Vad.Ref

end
-- ==== Proof.RefLoop.lean ====
/-
  The reference's loop over the chunks: one trip is one step of the LSTM, and eight trips give the final states and the
  probability of every chunk.
-/
module

public import proofs.«01_k».proof.Proof.RefEntry
public import Idealize.ShloMosaic.Lib.DynamicIndex

@[expose] public section

set_option maxRecDepth 16384

noncomputable section

namespace Cert.Vad.Ref

open Idealize.ShloMosaic Idealize.ShloMosaic.StableHlo Idealize.ShloMosaic.TcCoe Idealize.SL.Sem Cert.ReferenceIdeal Cert.ReferenceIdeal.Gen Cert.ReferenceIdeal.Value

/-- The loop's buffers hold the weights of `N`, its counter the number `i`, and chunk `i` of recording `b` has the
    features `x`, the hidden state `h` and the cell state `e`. -/
structure Holds (V : Valuation τ sig (Elt Ideal)) (N : Net) (i : Fin 8) (b : Fin 8192) (x h e : Fin 128 → EReal) : Prop where
  wi : ∀ q k, (V (Proc.devRef .tc main_v145_1) : FVec Ideal S512x128 .f32) (ix2 q k) = N.wi q k
  bi : ∀ q, (V (Proc.devRef .tc main_v145_2) : FVec Ideal S512 .f32) (ix1 q) = N.bi q
  wh : ∀ q k, (V (Proc.devRef .tc main_v145_3) : FVec Ideal S512x128 .f32) (ix2 q k) = N.wh q k
  bh : ∀ q, (V (Proc.devRef .tc main_v145_4) : FVec Ideal S512 .f32) (ix1 q) = N.bh q
  wo : ∀ k, (V (Proc.devRef .tc main_v145_5) : FVec Ideal S1x128 .f32) (ix2 0 k) = N.wo k
  bo : (V (Proc.devRef .tc main_v145_6) : FVec Ideal S1 .f32) (ix1 0) = N.bo
  ctr : (V (Proc.devRef .tc main_v145_7) : S_.Idx → BitVec 32) = fun _ => BitVec.ofNat 32 i.val
  x : ∀ k, (V (Proc.devRef .tc main_v145_0) : FVec Ideal S8x8192x128 .f32) (ix3 i b k) = x k
  h : ∀ k, (V (Proc.devRef .tc main_v145_8) : FVec Ideal S8192x128 .f32) (ix2 b k) = h k
  e : ∀ k, (V (Proc.devRef .tc main_v145_9) : FVec Ideal S8192x128 .f32) (ix2 b k) = e k

variable {V : Valuation τ sig (Elt Ideal)} {N : Net} {i : Fin 8} {b : Fin 8192} {x h e : Fin 128 → EReal}

/-- The slice at the starts `i, 0, 0` is chunk `i`. -/
theorem slice_at (i : Fin 8) (y : FVec Ideal S8x8192x128 .f32) (start : Fin 3 → Int) (h0 : start 0 = (i.val : Int)) (h1 : start 1 = 0) (h2 : start 2 = 0)
    (b : Fin 8192) (k : Fin 128) :
    Host.dynamicSlice S1x8192x128 y start sliceFits_S8x8192x128_S1x8192x128 (ix3 0 b k) = y (ix3 i b k) := by
  have hs : (S8x8192x128 : Shape).Slices ![i.val, 0, 0] S1x8192x128 := ⟨rfl, fun a => by fin_cases a <;> simp <;> omega⟩
  rw [Host.dynamicSlice_eq_extractStridedSlice S1x8192x128 y start ![i.val, 0, 0] _ hs (fun a => by
    fin_cases a
    · exact h0
    · exact h1
    · exact h2)]
  pointwise

/-- The update at the starts `i, 0, 0` replaces entry `i`. -/
theorem update_at (i : Fin 8) (y : FVec Ideal S8x8192x1 .f32) (u : FVec Ideal S1x8192x1 .f32) (start : Fin 3 → Int) (h0 : start 0 = (i.val : Int)) (h1 : start 1 = 0) (h2 : start 2 = 0)
    (j : Fin 8) (b : Fin 8192) :
    Host.dynamicUpdateSlice y u start updateFits_S8x8192x1_S1x8192x1 (ix3 j b 0) = if j = i then u (ix3 0 b 0) else y (ix3 j b 0) := by
  have hs : (S8x8192x1 : Shape).Slices ![i.val, 0, 0] S1x8192x1 := ⟨rfl, fun a => by fin_cases a <;> simp <;> omega⟩
  rw [Host.dynamicUpdateSlice_eq_updateSlice y u start _ ![i.val, 0, 0] (fun a => by
    fin_cases a
    · show (min (max (start 0) 0) (7 : Int)).toNat = i.val
      rw [h0]; omega
    · show (min (max (start 1) 0) (0 : Int)).toNat = 0
      rw [h1]; rfl
    · show (min (max (start 2) 0) (0 : Int)).toNat = 0
      rw [h2]; rfl) hs]
  pointwise
  by_cases hj : j = i
  · subst hj
    rw [dif_pos ⟨le_refl _, by omega⟩, if_pos rfl]
    exact congrArg (fun r : Fin 1 => u (ix3 r b 0)) (Subsingleton.elim _ _)
  · rw [dif_neg (fun hc => hj (Fin.ext (by omega))), if_neg hj]

/-- The gates' sums of one trip. -/
theorem gates (H : Holds V N i b x h e) (q : Fin 512) :
    (res_main_while0b_v186 V : FVec Ideal S8192x512 .f32) (ix2 b q) = gate N x h q := by
  unfold gate
  simp only [← H.wi, ← H.bi, ← H.wh, ← H.bh, ← H.x, ← H.h]
  rw [res_main_while0b_v186, H.ctr]
  have hx : ∀ k : Fin 128, (V (Proc.devRef .tc main_v145_0) : FVec Ideal S8x8192x128 .f32) (ix3 i b k) = _ := fun k =>
    (slice_at i (V (Proc.devRef .tc main_v145_0)) (fun k => ((![fun _ => BitVec.ofNat 32 i.val, constantI S_ 32 0#32, constantI S_ 32 0#32] : Fin 3 → S_.Idx → BitVec 32) k (Shape.Idx.first h_S_)).toInt)
      (toInt_ofNat_of_lt (by omega)) rfl rfl b k).symm
  simp only [hx]
  generalize Host.dynamicSlice S1x8192x128 (V (Proc.devRef .tc main_v145_0)) _ _ = y
  pointwise

/-- The cell state after one trip. -/
theorem cell_step (H : Holds V N i b x h e) (k : Fin 128) :
    (res_main_while0b_v206 V : FVec Ideal S8192x128 .f32) (ix2 b k) = nextC N x h e k := by
  unfold nextC
  simp only [← gates H, ← H.e]
  rw [res_main_while0b_v206]
  generalize res_main_while0b_v186 V = g
  pointwise
  rfl

/-- The hidden state after one trip. -/
theorem hidden_step (H : Holds V N i b x h e) (k : Fin 128) :
    (res_main_while0b_v214 V : FVec Ideal S8192x128 .f32) (ix2 b k) = nextH N x h e k := by
  unfold nextH
  simp only [← gates H, ← cell_step H]
  rw [res_main_while0b_v214]
  generalize res_main_while0b_v186 V = g
  generalize res_main_while0b_v206 V = g'
  pointwise
  rfl

/-- The probabilities after one trip: the trip's own is written, the others stay. -/
theorem prob_step (H : Holds V N i b x h e) (j : Fin 8) :
    (step_main_v145_10 V : FVec Ideal S8x8192x1 .f32) (ix3 j b 0)
      = if j = i then prob N (nextH N x h e) else (V (Proc.devRef .tc main_v145_10) : FVec Ideal S8x8192x1 .f32) (ix3 j b 0) := by
  unfold prob
  simp only [← hidden_step H, ← H.wo, ← H.bo]
  rw [step_main_v145_10, H.ctr]
  generalize res_main_while0b_v214 V = g
  refine (update_at i _ _ _ (toInt_ofNat_of_lt (by omega)) rfl rfl j b).trans ?_
  pointwise
  rfl

end Cert.Vad.Ref

end
-- ==== Proof.RefResult.lean ====
/-
  What the reference returns: the final states of every recording, and the probability that one of its chunks holds speech.
-/
module

public import proofs.«01_k».proof.Proof.RefLoop

@[expose] public section

set_option maxRecDepth 16384

noncomputable section

namespace Cert.Vad.Ref

open Idealize.ShloMosaic Idealize.ShloMosaic.StableHlo Idealize.ShloMosaic.TcCoe Idealize.SL.Sem Cert.ReferenceIdeal Cert.ReferenceIdeal.Gen Cert.ReferenceIdeal.Value

variable (m : (ℓ : Loc nD τ sig) → Buf (Elt Ideal) ℓ) (c : Dev nD)

/-! ## The loop's entry -/

/-- A buffer that nothing before the loop writes is as launched when the loop's buffers are filled. -/
theorem late (r : Ref sig .tc) (h : r ∉ hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W ++ hostOps0_17_W) :
    after17 m c (Proc.devRef .tc r) = m ((c.tc : Thread nD τ).loc r) := by
  simp only [List.mem_append, not_or] at h
  obtain ⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩ := h
  unfold after17 after13 after9 after5 after2
  rw [after_of_writes_sub hostOps0_17 _ hostOps0_17_writes h17, after_of_writes_sub hostOps0_16 _ hostOps0_16_writes h16, after_of_writes_sub hostOps0_15 _ hostOps0_15_writes h15, after_of_writes_sub hostOps0_14 _ hostOps0_14_writes h14, after_of_writes_sub hostOps0_13 _ hostOps0_13_writes h13, after_of_writes_sub hostOps0_12 _ hostOps0_12_writes h12, after_of_writes_sub hostOps0_11 _ hostOps0_11_writes h11, after_of_writes_sub hostOps0_10 _ hostOps0_10_writes h10, after_of_writes_sub hostOps0_9 _ hostOps0_9_writes h9, after_of_writes_sub hostOps0_8 _ hostOps0_8_writes h8, after_of_writes_sub hostOps0_7 _ hostOps0_7_writes h7, after_of_writes_sub hostOps0_6 _ hostOps0_6_writes h6, after_of_writes_sub hostOps0_5 _ hostOps0_5_writes h5, after_of_writes_sub hostOps0_4 _ hostOps0_4_writes h4, after_of_writes_sub hostOps0_3 _ hostOps0_3_writes h3, after_of_writes_sub hostOps0_2 _ hostOps0_2_writes h2, after_of_writes_sub hostOps0_1 _ hostOps0_1_writes h1, after_of_writes_sub hostOps0 _ hostOps0_writes h0]

/-- What fills the loop's buffers. -/
theorem fills (X : Valuation τ sig (Elt Ideal)) :
    after hostOps0_18 X (Proc.devRef .tc main_v145_1) = X (Proc.devRef .tc main_arg12)
    ∧ after hostOps0_18 X (Proc.devRef .tc main_v145_2) = X (Proc.devRef .tc main_arg14)
    ∧ after hostOps0_18 X (Proc.devRef .tc main_v145_3) = X (Proc.devRef .tc main_arg13)
    ∧ after hostOps0_18 X (Proc.devRef .tc main_v145_4) = X (Proc.devRef .tc main_arg15)
    ∧ after hostOps0_18 X (Proc.devRef .tc main_v145_5) = X (Proc.devRef .tc main_arg16)
    ∧ after hostOps0_18 X (Proc.devRef .tc main_v145_6) = X (Proc.devRef .tc main_arg17)
    ∧ after hostOps0_18 X (Proc.devRef .tc main_v145_8) = X (Proc.devRef .tc main_arg1)
    ∧ after hostOps0_18 X (Proc.devRef .tc main_v145_9) = X (Proc.devRef .tc main_arg2) := by
  refine ⟨?_, ?_, ?_, ?_, ?_, ?_, ?_, ?_⟩ <;> after_reads_at <;> rfl

/-- The loop's buffers start from the arguments. -/
theorem entries :
    entryContents preI m c (Proc.devRef .tc main_v145_1) = m ((c.tc : Thread nD τ).loc main_arg12)
    ∧ entryContents preI m c (Proc.devRef .tc main_v145_2) = m ((c.tc : Thread nD τ).loc main_arg14)
    ∧ entryContents preI m c (Proc.devRef .tc main_v145_3) = m ((c.tc : Thread nD τ).loc main_arg13)
    ∧ entryContents preI m c (Proc.devRef .tc main_v145_4) = m ((c.tc : Thread nD τ).loc main_arg15)
    ∧ entryContents preI m c (Proc.devRef .tc main_v145_5) = m ((c.tc : Thread nD τ).loc main_arg16)
    ∧ entryContents preI m c (Proc.devRef .tc main_v145_6) = m ((c.tc : Thread nD τ).loc main_arg17)
    ∧ entryContents preI m c (Proc.devRef .tc main_v145_8) = m ((c.tc : Thread nD τ).loc main_arg1)
    ∧ entryContents preI m c (Proc.devRef .tc main_v145_9) = m ((c.tc : Thread nD τ).loc main_arg2) := by
  obtain ⟨h1, h2, h3, h4, h5, h6, h8, h9⟩ := fills (after17 m c)
  rw [entry_eq]
  exact ⟨h1.trans (late m c _ (by decide +kernel)), h2.trans (late m c _ (by decide +kernel)), h3.trans (late m c _ (by decide +kernel)),
    h4.trans (late m c _ (by decide +kernel)), h5.trans (late m c _ (by decide +kernel)), h6.trans (late m c _ (by decide +kernel)),
    h8.trans (late m c _ (by decide +kernel)), h9.trans (late m c _ (by decide +kernel))⟩

/-! ## The trips -/

/-- The contents after `k` trips. -/
def tripped (k : ℕ) : Valuation τ sig (Elt Ideal) := STEP^[k] (entryContents preI m c)

/-- One more trip. -/
theorem tripped_succ (k : ℕ) : tripped m c (k + 1) = STEP (tripped m c k) := Function.iterate_succ_apply' _ _ _

/-- A buffer that a trip keeps is as at the loop's entry. -/
theorem tripped_keep {r : DevRef τ sig} (h : ∀ V : Valuation τ sig (Elt Ideal), STEP V r = V r) (k : ℕ) :
    tripped m c k r = entryContents preI m c r := by
  induction k with
  | zero => rfl
  | succ k ih => rw [tripped_succ, h, ih]

/-- The counter holds the number of trips. -/
theorem tripped_ctr (k : ℕ) : (tripped m c k (Proc.devRef .tc main_v145_7) : S_.Idx → BitVec 32) = fun _ => BitVec.ofNat 32 k := by
  refine (atK_agree m c k main_v145_7 (by decide)).symm.trans ((atK_ctr m c k).trans ?_)
  funext _
  simp [Scf.iv]

/-- The states of recording `b` after `k` chunks. -/
def st (b : Fin 8192) (k : ℕ) : (Fin 128 → EReal) × (Fin 128 → EReal) :=
  states (netR m c) (rec m c b) (stateRow (m ((c.tc : Thread nD τ).loc main_arg1)) b) (stateRow (m ((c.tc : Thread nD τ).loc main_arg2)) b) k

/-- The probability that recording `b` is silent for `k` chunks. -/
def quiet (b : Fin 8192) (k : ℕ) : EReal :=
  silence (netR m c) (rec m c b) (stateRow (m ((c.tc : Thread nD τ).loc main_arg1)) b) (stateRow (m ((c.tc : Thread nD τ).loc main_arg2)) b) k

/-- If the states after `k` trips are those after `k` chunks, trip `k` finds what a step needs. -/
theorem holds (k : Fin 8) (b : Fin 8192)
    (hh : ∀ q, (tripped m c k.val (Proc.devRef .tc main_v145_8) : FVec Ideal S8192x128 .f32) (ix2 b q) = (st m c b k.val).1 q)
    (he : ∀ q, (tripped m c k.val (Proc.devRef .tc main_v145_9) : FVec Ideal S8192x128 .f32) (ix2 b q) = (st m c b k.val).2 q) :
    Holds (tripped m c k.val) (netR m c) k b (feature (netR m c) (rec m c b) k.val) (st m c b k.val).1 (st m c b k.val).2 where
  wi q j := by rw [tripped_keep m c STEP_main_v145_1, (entries m c).1]; rfl
  bi q := by rw [tripped_keep m c STEP_main_v145_2, (entries m c).2.1]; rfl
  wh q j := by rw [tripped_keep m c STEP_main_v145_3, (entries m c).2.2.1]; rfl
  bh q := by rw [tripped_keep m c STEP_main_v145_4, (entries m c).2.2.2.1]; rfl
  wo j := by rw [tripped_keep m c STEP_main_v145_5, (entries m c).2.2.2.2.1]; rfl
  bo := by rw [tripped_keep m c STEP_main_v145_6, (entries m c).2.2.2.2.2.1]; rfl
  ctr := tripped_ctr m c k.val
  x j := by rw [tripped_keep m c STEP_main_v145_0]; exact features_eq m c k b j
  h := hh
  e := he

/-- After `k` trips the buffers hold the states after `k` chunks and the probabilities of the chunks before. -/
theorem trips (b : Fin 8192) (k : ℕ) (hk : k ≤ 8) :
    (∀ q, (tripped m c k (Proc.devRef .tc main_v145_8) : FVec Ideal S8192x128 .f32) (ix2 b q) = (st m c b k).1 q)
    ∧ (∀ q, (tripped m c k (Proc.devRef .tc main_v145_9) : FVec Ideal S8192x128 .f32) (ix2 b q) = (st m c b k).2 q)
    ∧ ∀ j : Fin 8, j.val < k →
      (tripped m c k (Proc.devRef .tc main_v145_10) : FVec Ideal S8x8192x1 .f32) (ix3 j b 0) = prob (netR m c) (st m c b (j.val + 1)).1 := by
  induction k with
  | zero =>
    refine ⟨fun q => ?_, fun q => ?_, fun j hj => absurd hj (by omega)⟩
    · rw [show tripped m c 0 = entryContents preI m c from rfl, (entries m c).2.2.2.2.2.2.1]; rfl
    · rw [show tripped m c 0 = entryContents preI m c from rfl, (entries m c).2.2.2.2.2.2.2]; rfl
  | succ k ih =>
    obtain ⟨h1, h2, h3⟩ := ih (by omega)
    have H := holds m c ⟨k, by omega⟩ b h1 h2
    rw [tripped_succ]
    refine ⟨fun q => ?_, fun q => ?_, fun j hj => ?_⟩
    · rw [STEP_main_v145_8]; exact hidden_step H q
    · rw [STEP_main_v145_9]; exact cell_step H q
    · rw [STEP_main_v145_10]
      refine (prob_step H j).trans ?_
      by_cases hjk : j = ⟨k, by omega⟩
      · rw [if_pos hjk, hjk]; rfl
      · rw [if_neg hjk]
        exact h3 j (lt_of_le_of_ne (by omega) fun hc => hjk (Fin.ext hc))

/-! ## The results -/

/-- The final hidden states. -/
theorem result_h : (tripped m c 8 (Proc.devRef .tc main_v145_8) : FVec Ideal S8192x128 .f32) = fun i : S8192x128.Idx => (st m c (i 0) 8).1 (i 1) := by
  funext i
  obtain ⟨b, q, rfl⟩ : ∃ (b : Fin 8192) (q : Fin 128), i = ix2 b q := ⟨i 0, i 1, eq_ix2 i⟩
  exact (trips m c b 8 le_rfl).1 q

/-- The final cell states. -/
theorem result_c : (tripped m c 8 (Proc.devRef .tc main_v145_9) : FVec Ideal S8192x128 .f32) = fun i : S8192x128.Idx => (st m c (i 0) 8).2 (i 1) := by
  funext i
  obtain ⟨b, q, rfl⟩ : ∃ (b : Fin 8192) (q : Fin 128), i = ix2 b q := ⟨i 0, i 1, eq_ix2 i⟩
  exact (trips m c b 8 le_rfl).2.1 q

/-- The probability that a chunk holds speech. -/
theorem result_p : (out_main_v174 (tripped m c 8) : FVec Ideal S1x8192 .f32) = fun i : S1x8192.Idx => 1 - quiet m c (i 1) 8 := by
  funext i
  obtain ⟨z, b, rfl⟩ : ∃ (z : Fin 1) (b : Fin 8192), i = ix2 z b := ⟨i 0, i 1, eq_ix2 i⟩
  have hp := fun j : Fin 8 => (trips m c b 8 le_rfl).2.2 j j.isLt
  show _ = 1 - quiet m c b 8
  simp only [quiet, silence, one_mul]
  rw [out_main_v174]
  generalize (tripped m c 8 (Proc.devRef .tc main_v145_10)) = p at *
  pointwise
  rw [hp 0, hp 1, hp 2, hp 3, hp 4, hp 5, hp 6, hp 7]
  rfl

end Cert.Vad.Ref

end
-- ==== Proof.Tameness.lean ====
/-
  What the precondition says of the arguments: the samples and the filters are real numbers, and the power of every bin is
  0 or at least the kernel's floor.
-/
module

public import proofs.«01_k».proof.Proof.Spec
public import proofs.«01_k».proof.Pre_tame
public import Idealize.ShloMosaic.Lib.Pointwise
public import Idealize.ShloMosaic.Lib.ReduceAll
public import Idealize.ShloMosaic.Lib.WordArith

@[expose] public section

set_option maxRecDepth 16384

noncomputable section

namespace Cert.Vad.Pre

open Idealize.ShloMosaic Cert.Pre_tame Cert.Pre_tame.Facts

variable [Cert.Pre_tame.Facts]

/-- A number whose absolute value is below +∞ is real. -/
theorem real_of_abs_lt {x : EReal} (h : BitVec.ofBool (decide (max x (-x) < Ideal.ofBits .f32 0x7F800000#32)) = 1#1) : ∃ r : ℝ, x = r := by
  have ht : Ideal.ofBits .f32 0x7F800000#32 = ⊤ := by simp [Ideal.ofBits, Ideal.ieee]
  rw [WordArith.ofBool_eq_one_iff, decide_eq_true_eq, ht] at h
  induction x using EReal.rec with
  | bot => simp at h
  | coe r => exact ⟨r, rfl⟩
  | top => simp at h

/-- The stacked chunks of the recordings. -/
theorem stacked (x0 : FVec Ideal S8192x4160 .f32) (x1 x2 : FVec Ideal S8192x128 .f32) (x3 : FVec Ideal S258x1x256 .f32) (x4 : FVec Ideal S128x129x3 .f32)
    (x5 : FVec Ideal S128 .f32) (x6 : FVec Ideal S64x128x3 .f32) (x7 : FVec Ideal S64 .f32) (x8 : FVec Ideal S64x64x3 .f32) (x9 : FVec Ideal S64 .f32)
    (x10 : FVec Ideal S128x64x3 .f32) (x11 : FVec Ideal S128 .f32) (x12 x13 : FVec Ideal S512x128 .f32) (x14 x15 : FVec Ideal S512 .f32)
    (x16 : FVec Ideal S1x128 .f32) (x17 : FVec Ideal S1 .f32) :
    ∃ y : FVec Ideal S65536x576 .f32,
      fn x0 x1 x2 x3 x4 x5 x6 x7 x8 x9 x10 x11 x12 x13 x14 x15 x16 x17
        = fn_part1 x0 x3 (fn_pad y (constantI S_ 32 0#32)) (Host.dotGeneral dot_S65536x256_S256x258_S65536x258_1_0_0_1_n_n none
            (extractStridedSlice S65536x256 ![0, 0] (fn_pad y (constantI S_ 32 0#32)) slices_S65536x704_S65536x256_0_0)
            (transpose S256x258 [1, 0] (shapeCast S258x256 x3 shapeCasts_S258x1x256_S258x256) transposes_S258x256_S256x258_1_0))
      ∧ ∀ (i : Fin 8) (b : Fin 8192) (n : Fin 576), y (ix2 ⟨8192 * i.val + b.val, by omega⟩ n) = recording x0 b (512 * i.val + n.val) := by
  refine ⟨_, rfl, fun i b n => ?_⟩
  have hb := b.isLt
  rw [recording, dif_pos (by omega)]
  pointwise
  obtain ⟨i, hi⟩ := i
  dsimp only
  interval_cases i <;> pointwise

/-- A row with 64 samples mirrored in front of it. -/
theorem padded (y : FVec Ideal S65536x576 .f32) (z : IVec S_ 32) (r : Fin 65536) (n : Fin 640) :
    fn_pad y z (ix2 r ⟨n.val, by omega⟩) = y (ix2 r ⟨if n.val < 64 then 64 - n.val else n.val - 64, by split <;> omega⟩) := by
  unfold fn_pad fn_flip
  pointwise
  split
  · refine congrArg _ (congrArg₂ ix2 ?_ (Fin.ext ?_))
    · simp
    · simp [Fin.rev]; omega
  · rfl

/-- The power of the bins. -/
theorem powers (x0 : FVec Ideal S8192x4160 .f32) (x3 : FVec Ideal S258x1x256 .f32) (z : FVec Ideal S65536x704 .f32) :
    ∃ p : FVec Ideal S65536x129x4 .f32,
      fn_part1 x0 x3 z (Host.dotGeneral dot_S65536x256_S256x258_S65536x258_1_0_0_1_n_n none
            (extractStridedSlice S65536x256 ![0, 0] z slices_S65536x704_S65536x256_0_0)
            (transpose S256x258 [1, 0] (shapeCast S258x256 x3 shapeCasts_S258x1x256_S258x256) transposes_S258x256_S256x258_1_0))
        = fn_part2 x3 p (Host.absf x0) (constant S_ .f32 0x7F800000#32)
      ∧ ∀ (r : Fin 65536) (f : Fin 129) (t : Fin 4) (x : ℕ → EReal), (∀ n : Fin 640, z (ix2 r ⟨n.val, by omega⟩) = x n.val) →
        p (ix3 r f t) = (∑ n : Fin 256, x (128 * t.val + n.val) * x3 (ix3 ⟨f.val, by omega⟩ 0 n)) * (∑ n : Fin 256, x (128 * t.val + n.val) * x3 (ix3 ⟨f.val, by omega⟩ 0 n))
          + (∑ n : Fin 256, x (128 * t.val + n.val) * x3 (ix3 ⟨129 + f.val, by omega⟩ 0 n)) * (∑ n : Fin 256, x (128 * t.val + n.val) * x3 (ix3 ⟨129 + f.val, by omega⟩ 0 n)) := by
  refine ⟨_, rfl, fun r f t x hx => ?_⟩
  have hx' : ∀ n : Fin 256, x (128 * t.val + n.val) = z (ix2 r ⟨128 * t.val + n.val, by omega⟩) :=
    fun n => (hx ⟨128 * t.val + n.val, by omega⟩).symm
  simp only [hx']
  pointwise
  obtain ⟨t, ht⟩ := t
  dsimp only
  interval_cases t <;> pointwise

/-- What the precondition's last part tests. -/
theorem tests (x3 : FVec Ideal S258x1x256 .f32) (p : FVec Ideal S65536x129x4 .f32) (a : FVec Ideal S8192x4160 .f32)
    (h : fn_part2 x3 p (Host.absf a) (constant S_ .f32 0x7F800000#32) = fun _ => 1#1) :
    (∀ b n, ∃ r : ℝ, a (ix2 b n) = r) ∧ (∀ f n, ∃ r : ℝ, x3 (ix3 f 0 n) = r)
    ∧ ∀ r f t, p (ix3 r f t) = (0 : EReal) ∨ Ideal.ofBits .f32 0x02081CEA#32 ≤ p (ix3 r f t) := by
  have h0 := congrFun h (Shape.Idx.first h_S_)
  unfold fn_part2 at h0
  dsimp only at h0
  obtain ⟨h1, h4⟩ := IntOp.andi_eq_one.1 h0
  obtain ⟨h2, h3⟩ := IntOp.andi_eq_one.1 h1
  have hs : Subsingleton S_.Idx := ⟨fun _ _ => funext fun i => i.elim0⟩
  refine ⟨fun b n => ?_, fun f n => ?_, fun r f t => ?_⟩
  · have e := Host.reduce_andi_all _ _ _ _ _ h2 (ix2 b n)
    pointwise at e
    exact real_of_abs_lt e
  · have e := Host.reduce_andi_all _ _ _ _ _ h3 (ix3 f 0 n)
    pointwise at e
    exact real_of_abs_lt e
  · have e := Host.reduce_andi_all _ _ _ _ _ h4 (ix3 r f t)
    pointwise at e
    rcases IntOp.ori_eq_one.1 e with e | e
    · exact .inl (of_decide_eq_true ((WordArith.ofBool_eq_one_iff _).1 e))
    · exact .inr (of_decide_eq_true ((WordArith.ofBool_eq_one_iff _).1 e))

/-- Under the precondition every recording is tame. -/
theorem tame_of_pre {x0 : FVec Ideal S8192x4160 .f32} {x1 x2 : FVec Ideal S8192x128 .f32} {x3 : FVec Ideal S258x1x256 .f32} {x4 : FVec Ideal S128x129x3 .f32}
    {x5 : FVec Ideal S128 .f32} {x6 : FVec Ideal S64x128x3 .f32} {x7 : FVec Ideal S64 .f32} {x8 : FVec Ideal S64x64x3 .f32} {x9 : FVec Ideal S64 .f32}
    {x10 : FVec Ideal S128x64x3 .f32} {x11 : FVec Ideal S128 .f32} {x12 x13 : FVec Ideal S512x128 .f32} {x14 x15 : FVec Ideal S512 .f32}
    {x16 : FVec Ideal S1x128 .f32} {x17 : FVec Ideal S1 .f32}
    (h : fn x0 x1 x2 x3 x4 x5 x6 x7 x8 x9 x10 x11 x12 x13 x14 x15 x16 x17 = fun _ => 1#1) (b : Fin 8192) :
    Tame (netOf x3 x4 x5 x6 x7 x8 x9 x10 x11 x12 x13 x14 x15 x16 x17) (recording x0 b) := by
  obtain ⟨y, e1, hy⟩ := stacked x0 x1 x2 x3 x4 x5 x6 x7 x8 x9 x10 x11 x12 x13 x14 x15 x16 x17
  obtain ⟨p, e2, hp⟩ := powers x0 x3 (fn_pad y (constantI S_ 32 0#32))
  obtain ⟨ha, hw, hf⟩ := tests x3 p x0 (e2.symm.trans (e1.symm.trans h))
  refine ⟨fun n => ?_, fun f n => hw f n, fun i t f hi ht => ?_⟩
  · unfold recording
    split
    · exact ha b _
    · exact ⟨0, rfl⟩
  · have e := hp ⟨8192 * i + b.val, by omega⟩ f ⟨t, ht⟩ (mirrored (recording x0 b) i) fun n => by
      refine (padded y _ _ n).trans ((hy ⟨i, hi⟩ b _).trans ?_)
      unfold mirrored
      dsimp only
      split <;> rfl
    have hq := hf ⟨8192 * i + b.val, by omega⟩ f ⟨t, ht⟩
    rw [e] at hq
    exact hq

end Cert.Vad.Pre

end
-- ==== Proof.PreFacts.lean ====
/-
  The side conditions that the precondition's operations state.
-/
module

public import proofs.«01_k».proof.Pre_tame

@[expose] public section

namespace Cert.Vad.Pre

open Idealize.ShloMosaic

/-- The slices fit, the reshapes keep the number of elements, and the like. -/
theorem facts : Cert.Pre_tame.Facts := by
  constructor <;> decide

end Cert.Vad.Pre
-- ==== Proof.Algebraic.lean ====
/-
  The two programs return the same results: both compute the model, from arguments that are equal.
-/
module

public import proofs.«01_k».proof.Defs
public import proofs.«01_k».proof.Proof.KernelArray
public import proofs.«01_k».proof.Proof.RefResult
public import proofs.«01_k».proof.Proof.Tameness
public import proofs.«01_k».proof.Proof.PreFacts
public import Idealize.ShloMosaic.Adequacy
public import Idealize.ShloMosaic.Init

@[expose] public section

set_option maxRecDepth 16384

noncomputable section

namespace Cert.Vad

open Idealize.ShloMosaic Idealize.ShloMosaic.TcCoe Idealize.SL.Sem

attribute [local instance] Pre.facts

/-- The contents of the kernel's argument arrays are those of the reference's. -/
def SameArgs (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) : Prop :=
  m' ((c.tc : Thread ReferenceIdeal.nD ReferenceIdeal.τ).loc ReferenceIdeal.main_arg0) = m ((c.tc : Thread KernelIdeal.nD KernelIdeal.τ).loc KernelIdeal.main_arg0)
    ∧ m' ((c.tc : Thread ReferenceIdeal.nD ReferenceIdeal.τ).loc ReferenceIdeal.main_arg1) = m ((c.tc : Thread KernelIdeal.nD KernelIdeal.τ).loc KernelIdeal.main_arg1)
    ∧ m' ((c.tc : Thread ReferenceIdeal.nD ReferenceIdeal.τ).loc ReferenceIdeal.main_arg2) = m ((c.tc : Thread KernelIdeal.nD KernelIdeal.τ).loc KernelIdeal.main_arg2)
    ∧ m' ((c.tc : Thread ReferenceIdeal.nD ReferenceIdeal.τ).loc ReferenceIdeal.main_arg3) = m ((c.tc : Thread KernelIdeal.nD KernelIdeal.τ).loc KernelIdeal.main_arg3)
    ∧ m' ((c.tc : Thread ReferenceIdeal.nD ReferenceIdeal.τ).loc ReferenceIdeal.main_arg4) = m ((c.tc : Thread KernelIdeal.nD KernelIdeal.τ).loc KernelIdeal.main_arg4)
    ∧ m' ((c.tc : Thread ReferenceIdeal.nD ReferenceIdeal.τ).loc ReferenceIdeal.main_arg5) = m ((c.tc : Thread KernelIdeal.nD KernelIdeal.τ).loc KernelIdeal.main_arg5)
    ∧ m' ((c.tc : Thread ReferenceIdeal.nD ReferenceIdeal.τ).loc ReferenceIdeal.main_arg6) = m ((c.tc : Thread KernelIdeal.nD KernelIdeal.τ).loc KernelIdeal.main_arg6)
    ∧ m' ((c.tc : Thread ReferenceIdeal.nD ReferenceIdeal.τ).loc ReferenceIdeal.main_arg7) = m ((c.tc : Thread KernelIdeal.nD KernelIdeal.τ).loc KernelIdeal.main_arg7)
    ∧ m' ((c.tc : Thread ReferenceIdeal.nD ReferenceIdeal.τ).loc ReferenceIdeal.main_arg8) = m ((c.tc : Thread KernelIdeal.nD KernelIdeal.τ).loc KernelIdeal.main_arg8)
    ∧ m' ((c.tc : Thread ReferenceIdeal.nD ReferenceIdeal.τ).loc ReferenceIdeal.main_arg9) = m ((c.tc : Thread KernelIdeal.nD KernelIdeal.τ).loc KernelIdeal.main_arg9)
    ∧ m' ((c.tc : Thread ReferenceIdeal.nD ReferenceIdeal.τ).loc ReferenceIdeal.main_arg10) = m ((c.tc : Thread KernelIdeal.nD KernelIdeal.τ).loc KernelIdeal.main_arg10)
    ∧ m' ((c.tc : Thread ReferenceIdeal.nD ReferenceIdeal.τ).loc ReferenceIdeal.main_arg11) = m ((c.tc : Thread KernelIdeal.nD KernelIdeal.τ).loc KernelIdeal.main_arg11)
    ∧ m' ((c.tc : Thread ReferenceIdeal.nD ReferenceIdeal.τ).loc ReferenceIdeal.main_arg12) = m ((c.tc : Thread KernelIdeal.nD KernelIdeal.τ).loc KernelIdeal.main_arg12)
    ∧ m' ((c.tc : Thread ReferenceIdeal.nD ReferenceIdeal.τ).loc ReferenceIdeal.main_arg13) = m ((c.tc : Thread KernelIdeal.nD KernelIdeal.τ).loc KernelIdeal.main_arg13)
    ∧ m' ((c.tc : Thread ReferenceIdeal.nD ReferenceIdeal.τ).loc ReferenceIdeal.main_arg14) = m ((c.tc : Thread KernelIdeal.nD KernelIdeal.τ).loc KernelIdeal.main_arg14)
    ∧ m' ((c.tc : Thread ReferenceIdeal.nD ReferenceIdeal.τ).loc ReferenceIdeal.main_arg15) = m ((c.tc : Thread KernelIdeal.nD KernelIdeal.τ).loc KernelIdeal.main_arg15)
    ∧ m' ((c.tc : Thread ReferenceIdeal.nD ReferenceIdeal.τ).loc ReferenceIdeal.main_arg16) = m ((c.tc : Thread KernelIdeal.nD KernelIdeal.τ).loc KernelIdeal.main_arg16)
    ∧ m' ((c.tc : Thread ReferenceIdeal.nD ReferenceIdeal.τ).loc ReferenceIdeal.main_arg17) = m ((c.tc : Thread KernelIdeal.nD KernelIdeal.τ).loc KernelIdeal.main_arg17)

variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ} {c : Dev KernelIdeal.nD}

/-- Equal arguments hold equal weights. -/
theorem net_eq (h : SameArgs m m' c) : Ref.netR m' c = netK m c := by
  obtain ⟨-, -, -, h3, h4, h5, h6, h7, h8, h9, h10, h11, h12, h13, h14, h15, h16, h17⟩ := h
  unfold Ref.netR netK
  rw [h3, h4, h5, h6, h7, h8, h9, h10, h11, h12, h13, h14, h15, h16, h17]

/-- Equal arguments give equal final states. -/
theorem final_states_eq (h : SameArgs m m' c) (b : Fin 8192) : Ref.st m' c b 8 = finalStates m c b := by
  unfold Ref.st finalStates Ref.rec
  rw [net_eq h, h.1, h.2.1, h.2.2.1]

/-- Equal arguments give equal probabilities. -/
theorem quiet_eq (h : SameArgs m m' c) (b : Fin 8192) : Ref.quiet m' c b 8 = finalSilence m c b := by
  unfold Ref.quiet finalSilence Ref.rec
  rw [net_eq h, h.1, h.2.1, h.2.2.1]

/-- The kernel and the reference, over the extended reals, end with equal results. -/
theorem algebraic : Cert.algebraic_KernelIdeal_ReferenceIdeal_pre_tame := by
  intro m g m' g' hpre hagree
  have T : ∀ (c : Dev KernelIdeal.nD) (b : Fin 8192), Tame (netK m c) (recording (m ((c.tc : Thread KernelIdeal.nD KernelIdeal.τ).loc KernelIdeal.main_arg0)) b) :=
    fun c b => Pre.tame_of_pre (hpre c) b
  refine ⟨fun c i => 1 - finalSilence m c (i 1), fun c i => (finalStates m c (i 0)).1 (i 1), fun c i => (finalStates m c (i 0)).2 (i 1), ?_, ?_⟩
  · refine (θ_run KernelIdeal.defs _ _).mono (fun r h c => ?_) (KernelIdeal.Value.run_blocks (F := Ideal) m g)
    obtain ⟨hp, hh, hc, hargs⟩ := h c
    exact ⟨hp.trans (array_p m c (T c)), hh.trans (array_h m c (T c)), hc.trans (array_c m c (T c)), hargs⟩
  · refine (θ_run ReferenceIdeal.defs _ _).mono (fun r h c => ?_) (ReferenceIdeal.Value.run (F := Ideal) m' g')
    obtain ⟨hp, hh, hc, hargs⟩ := h c
    have hs : SameArgs m m' c := hagree c
    refine ⟨hp.trans ((Ref.result_p m' c).trans ?_), hh.trans ((Ref.result_h m' c).trans ?_), hc.trans ((Ref.result_c m' c).trans ?_), hargs⟩
    · funext i
      exact congrArg (fun x : EReal => 1 - x) (quiet_eq hs (i 1))
    · funext i
      exact congrArg (fun x : (Fin 128 → EReal) × (Fin 128 → EReal) => x.1 (i 1)) (final_states_eq hs (i 0))
    · funext i
      exact congrArg (fun x : (Fin 128 → EReal) × (Fin 128 → EReal) => x.2 (i 1)) (final_states_eq hs (i 0))

end Cert.Vad

end
-- ==== Proof.lean ====
/-
  The claims: both programs' frames, the kernel's at machine words and over the extended reals, and the equality of the
  kernel's results with the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem

/-- The reference runs, leaves its arguments as they were and has no counter to leave raised. -/
theorem reference_frame : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Every claim of the certificate. -/
theorem claim : Cert.Claim :=
  ⟨Cert.Kernel.Gen.facts, Cert.KernelIdeal.Gen.facts, Cert.ReferenceIdeal.Gen.facts, Cert.Vad.Pre.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, Cert.Vad.algebraic⟩

end Cert.Proof

end
